-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v326) = v0 c
          ∧ r.2.mem ((c.tc : Thread Cert.ReferenceIdeal.nD Cert.ReferenceIdeal.τ).loc Cert.ReferenceIdeal.main_v327) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x2 : Shape := ⟨2, ![131072, 2]⟩
abbrev S131072 : Shape := ⟨1, ![131072]⟩
abbrev S131072x4x4 : Shape := ⟨3, ![131072, 4, 4]⟩
abbrev S131072x4x2 : Shape := ⟨3, ![131072, 4, 2]⟩
abbrev S131072x4x2x2 : Shape := ⟨4, ![131072, 4, 2, 2]⟩
abbrev S_ : Shape := ⟨0, ![]⟩
abbrev S2 : Shape := ⟨1, ![2]⟩
abbrev S4x2 : Shape := ⟨2, ![4, 2]⟩
abbrev S4 : Shape := ⟨1, ![4]⟩
abbrev S4x4 : Shape := ⟨2, ![4, 4]⟩
abbrev S131072x16 : Shape := ⟨2, ![131072, 16]⟩
abbrev S131072x8 : Shape := ⟨2, ![131072, 8]⟩
abbrev S1x131072 : Shape := ⟨2, ![1, 131072]⟩
abbrev S8192x16 : Shape := ⟨2, ![8192, 16]⟩
abbrev S8192x8 : Shape := ⟨2, ![8192, 8]⟩
abbrev S8192x2 : Shape := ⟨2, ![8192, 2]⟩
abbrev S1x8192 : Shape := ⟨2, ![1, 8192]⟩
abbrev S1 : Shape := ⟨1, ![1]⟩
abbrev S1x1 : Shape := ⟨2, ![1, 1]⟩
abbrev S8x8192 : Shape := ⟨2, ![8, 8192]⟩
abbrev S4x8192 : Shape := ⟨2, ![4, 8192]⟩
abbrev S2x8192 : Shape := ⟨2, ![2, 8192]⟩
abbrev S16x8192 : Shape := ⟨2, ![16, 8192]⟩

abbrev nBuf : Space → Nat
  | .hbm => 16
  | .vmem => 12
  | .smem => 5
  | _ => 0

abbrev bufTy : (tb : Table) → Fin (tcTables nBuf tb) → BufTy
  | .hbm, ⟨0, _⟩ => ⟨S131072x2, .f32⟩
  | .hbm, ⟨1, _⟩ => ⟨S131072, .i32⟩
  | .hbm, ⟨2, _⟩ => ⟨S131072x4x4, .f32⟩
  | .hbm, ⟨3, _⟩ => ⟨S131072x4x2, .f32⟩
  | .hbm, ⟨4, _⟩ => ⟨S131072x4x2x2, .f32⟩
  | .hbm, ⟨5, _⟩ => ⟨S_, .i32⟩
  | .hbm, ⟨6, _⟩ => ⟨S2, .f32⟩
  | .hbm, ⟨7, _⟩ => ⟨S4x2, .f32⟩
  | .hbm, ⟨8, _⟩ => ⟨S4, .f32⟩
  | .hbm, ⟨9, _⟩ => ⟨S4x4, .f32⟩
  | .hbm, ⟨10, _⟩ => ⟨S4, .f32⟩
  | .hbm, ⟨11, _⟩ => ⟨S131072x16, .f32⟩
  | .hbm, ⟨12, _⟩ => ⟨S131072x8, .f32⟩
  | .hbm, ⟨13, _⟩ => ⟨S131072x16, .f32⟩
  | .hbm, ⟨14, _⟩ => ⟨S131072x2, .f32⟩
  | .hbm, ⟨15, _⟩ => ⟨S1x131072, .i32⟩
  | .local _ .vmem, ⟨0, _⟩ => ⟨S8192x16, .f32⟩
  | .local _ .vmem, ⟨1, _⟩ => ⟨S8192x16, .f32⟩
  | .local _ .vmem, ⟨2, _⟩ => ⟨S8192x8, .f32⟩
  | .local _ .vmem, ⟨3, _⟩ => ⟨S8192x8, .f32⟩
  | .local _ .vmem, ⟨4, _⟩ => ⟨S8192x16, .f32⟩
  | .local _ .vmem, ⟨5, _⟩ => ⟨S8192x16, .f32⟩
  | .local _ .vmem, ⟨6, _⟩ => ⟨S8192x2, .f32⟩
  | .local _ .vmem, ⟨7, _⟩ => ⟨S8192x2, .f32⟩
  | .local _ .vmem, ⟨8, _⟩ => ⟨S8192x2, .f32⟩
  | .local _ .vmem, ⟨9, _⟩ => ⟨S8192x2, .f32⟩
  | .local _ .vmem, ⟨10, _⟩ => ⟨S1x8192, .i32⟩
  | .local _ .vmem, ⟨11, _⟩ => ⟨S1x8192, .i32⟩
  | .local _ .smem, ⟨0, _⟩ => ⟨S2, .f32⟩
  | .local _ .smem, ⟨1, _⟩ => ⟨S4x2, .f32⟩
  | .local _ .smem, ⟨2, _⟩ => ⟨S4, .f32⟩
  | .local _ .smem, ⟨3, _⟩ => ⟨S4x4, .f32⟩
  | .local _ .smem, ⟨4, _⟩ => ⟨S4, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v0_0 : Ref sig .tc := ⟨.hbm, 14, rfl⟩
abbrev main_v0_1 : Ref sig .tc := ⟨.hbm, 15, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8192 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S131072x2 : Shape := ⟨2, ![131072, 2]⟩
abbrev S131072 : Shape := ⟨1, ![131072]⟩
abbrev S131072x4x4 : Shape := ⟨3, ![131072, 4, 4]⟩
abbrev S131072x4x2 : Shape := ⟨3, ![131072, 4, 2]⟩
abbrev S131072x4x2x2 : Shape := ⟨4, ![131072, 4, 2, 2]⟩
abbrev S_ : Shape := ⟨0, ![]⟩
abbrev S2 : Shape := ⟨1, ![2]⟩
abbrev S4x2 : Shape := ⟨2, ![4, 2]⟩
abbrev S4 : Shape := ⟨1, ![4]⟩
abbrev S4x4 : Shape := ⟨2, ![4, 4]⟩
abbrev S3 : Shape := ⟨1, ![3]⟩
abbrev S1 : Shape := ⟨1, ![1]⟩
abbrev S3x1 : Shape := ⟨2, ![3, 1]⟩
abbrev S3x2 : Shape := ⟨2, ![3, 2]⟩
abbrev S1x2 : Shape := ⟨2, ![1, 2]⟩
abbrev S2x4 : Shape := ⟨2, ![2, 4]⟩
abbrev S131072x4 : Shape := ⟨2, ![131072, 4]⟩
abbrev S131072x1 : Shape := ⟨2, ![131072, 1]⟩
abbrev S131072x1x1 : Shape := ⟨3, ![131072, 1, 1]⟩
abbrev S1x1x1 : Shape := ⟨3, ![1, 1, 1]⟩
abbrev S131072x1x4 : Shape := ⟨3, ![131072, 1, 4]⟩
abbrev S131072x1x2 : Shape := ⟨3, ![131072, 1, 2]⟩
abbrev S131072x1x1x1 : Shape := ⟨4, ![131072, 1, 1, 1]⟩
abbrev S131072x1x2x2 : Shape := ⟨4, ![131072, 1, 2, 2]⟩
abbrev S131072x2x2 : Shape := ⟨3, ![131072, 2, 2]⟩
abbrev S2x1 : Shape := ⟨2, ![2, 1]⟩
abbrev S2x2 : Shape := ⟨2, ![2, 2]⟩
abbrev S131072x2x1 : Shape := ⟨3, ![131072, 2, 1]⟩
abbrev S1x2x2 : Shape := ⟨3, ![1, 2, 2]⟩
abbrev S1x131072 : Shape := ⟨2, ![1, 131072]⟩

abbrev nBuf : Space → Nat
  | .hbm => 1333
  | .vmem => 0
  | .smem => 0
  | _ => 0

abbrev hbmTy0_0 (i : Nat) : BufTy := match i % 128 with
  | 0 => ⟨S131072x2, .f32⟩
  | 1 => ⟨S131072, .i32⟩
  | 2 => ⟨S131072x4x4, .f32⟩
  | 3 => ⟨S131072x4x2, .f32⟩
  | 4 => ⟨S131072x4x2x2, .f32⟩
  | 5 => ⟨S_, .i32⟩
  | 6 => ⟨S2, .f32⟩
  | 7 => ⟨S4x2, .f32⟩
  | 8 => ⟨S4, .f32⟩
  | 9 => ⟨S4x4, .f32⟩
  | 10 => ⟨S4, .f32⟩
  | 11 => ⟨S2, .i32⟩
  | 12 => ⟨S_, .i32⟩
  | 13 => ⟨S3, .i32⟩
  | 14 => ⟨S3, .i32⟩
  | 15 => ⟨S1, .i32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S_, .i32⟩
  | 23 => ⟨S_, .i32⟩
  | 24 => ⟨S_, .i32⟩
  | 25 => ⟨S_, .i32⟩
  | 26 => ⟨S3, .i32⟩
  | 27 => ⟨S3, .i32⟩
  | 28 => ⟨S3, .i32⟩
  | 29 => ⟨S3, .i32⟩
  | 30 => ⟨S3, .i32⟩
  | 31 => ⟨S_, .i32⟩
  | 32 => ⟨S3, .i32⟩
  | 33 => ⟨S3, .i32⟩
  | 34 => ⟨S_, .i32⟩
  | 35 => ⟨S3, .i32⟩
  | 36 => ⟨S3, .i32⟩
  | 37 => ⟨S3, .i32⟩
  | 38 => ⟨S3, .i32⟩
  | 39 => ⟨S3, .i32⟩
  | 40 => ⟨S_, .i32⟩
  | 41 => ⟨S3, .i32⟩
  | 42 => ⟨S3, .i32⟩
  | 43 => ⟨S_, .i32⟩
  | 44 => ⟨S3, .i32⟩
  | 45 => ⟨S3, .i32⟩
  | 46 => ⟨S3, .i32⟩
  | 47 => ⟨S3, .i32⟩
  | 48 => ⟨S3, .i32⟩
  | 49 => ⟨S_, .i32⟩
  | 50 => ⟨S3, .i32⟩
  | 51 => ⟨S3, .i32⟩
  | 52 => ⟨S_, .i32⟩
  | 53 => ⟨S3, .i32⟩
  | 54 => ⟨S3, .i32⟩
  | 55 => ⟨S3, .i32⟩
  | 56 => ⟨S3, .i32⟩
  | 57 => ⟨S3, .i32⟩
  | 58 => ⟨S_, .i32⟩
  | 59 => ⟨S3, .i32⟩
  | 60 => ⟨S3, .i32⟩
  | 61 => ⟨S_, .i32⟩
  | 62 => ⟨S3, .i32⟩
  | 63 => ⟨S3, .i32⟩
  | 64 => ⟨S3, .i32⟩
  | 65 => ⟨S3, .i32⟩
  | 66 => ⟨S3, .i32⟩
  | 67 => ⟨S3, .i32⟩
  | 68 => ⟨S_, .i32⟩
  | 69 => ⟨S_, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S_, .i32⟩
  | 77 => ⟨S3, .i32⟩
  | 78 => ⟨S3, .i32⟩
  | 79 => ⟨S3, .i32⟩
  | 80 => ⟨S3, .i32⟩
  | 81 => ⟨S3, .i32⟩
  | 82 => ⟨S_, .i32⟩
  | 83 => ⟨S3, .i32⟩
  | 84 => ⟨S3, .i32⟩
  | 85 => ⟨S_, .i32⟩
  | 86 => ⟨S3, .i32⟩
  | 87 => ⟨S3, .i32⟩
  | 88 => ⟨S3, .i32⟩
  | 89 => ⟨S3, .i32⟩
  | 90 => ⟨S3, .i32⟩
  | 91 => ⟨S_, .i32⟩
  | 92 => ⟨S3, .i32⟩
  | 93 => ⟨S3, .i32⟩
  | 94 => ⟨S_, .i32⟩
  | 95 => ⟨S3, .i32⟩
  | 96 => ⟨S3, .i32⟩
  | 97 => ⟨S3, .i32⟩
  | 98 => ⟨S3, .i32⟩
  | 99 => ⟨S3, .i32⟩
  | 100 => ⟨S_, .i32⟩
  | 101 => ⟨S3, .i32⟩
  | 102 => ⟨S3, .i32⟩
  | 103 => ⟨S_, .i32⟩
  | 104 => ⟨S3, .i32⟩
  | 105 => ⟨S3, .i32⟩
  | 106 => ⟨S3, .i32⟩
  | 107 => ⟨S3, .i32⟩
  | 108 => ⟨S3, .i32⟩
  | 109 => ⟨S3, .i32⟩
  | 110 => ⟨S_, .i32⟩
  | 111 => ⟨S_, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S_, .i32⟩
  | 119 => ⟨S3, .i32⟩
  | 120 => ⟨S3, .i32⟩
  | 121 => ⟨S3, .i32⟩
  | 122 => ⟨S3, .i32⟩
  | 123 => ⟨S3, .i32⟩
  | 124 => ⟨S_, .i32⟩
  | 125 => ⟨S3, .i32⟩
  | 126 => ⟨S3, .i32⟩
  | 127 => ⟨S_, .i32⟩
  | _ => ⟨S131072x2, .f32⟩

abbrev hbmTy0_1 (i : Nat) : BufTy := match i % 128 with
  | 0 => ⟨S3, .i32⟩
  | 1 => ⟨S3, .i32⟩
  | 2 => ⟨S3, .i32⟩
  | 3 => ⟨S3, .i32⟩
  | 4 => ⟨S3, .i32⟩
  | 5 => ⟨S_, .i32⟩
  | 6 => ⟨S3, .i32⟩
  | 7 => ⟨S3, .i32⟩
  | 8 => ⟨S_, .i32⟩
  | 9 => ⟨S3, .i32⟩
  | 10 => ⟨S3, .i32⟩
  | 11 => ⟨S3, .i32⟩
  | 12 => ⟨S3, .i32⟩
  | 13 => ⟨S3, .i32⟩
  | 14 => ⟨S_, .i32⟩
  | 15 => ⟨S3, .i32⟩
  | 16 => ⟨S3, .i32⟩
  | 17 => ⟨S_, .i32⟩
  | 18 => ⟨S3, .i32⟩
  | 19 => ⟨S3, .i32⟩
  | 20 => ⟨S3, .i32⟩
  | 21 => ⟨S3, .i32⟩
  | 22 => ⟨S3, .i32⟩
  | 23 => ⟨S3, .i32⟩
  | 24 => ⟨S_, .i32⟩
  | 25 => ⟨S_, .i32⟩
  | 26 => ⟨S3, .i32⟩
  | 27 => ⟨S3, .i32⟩
  | 28 => ⟨S3, .i32⟩
  | 29 => ⟨S_, .i32⟩
  | 30 => ⟨S3, .i32⟩
  | 31 => ⟨S3, .i32⟩
  | 32 => ⟨S_, .i32⟩
  | 33 => ⟨S3, .i32⟩
  | 34 => ⟨S3, .i32⟩
  | 35 => ⟨S3, .i32⟩
  | 36 => ⟨S3, .i32⟩
  | 37 => ⟨S3, .i32⟩
  | 38 => ⟨S_, .i32⟩
  | 39 => ⟨S3, .i32⟩
  | 40 => ⟨S3, .i32⟩
  | 41 => ⟨S_, .i32⟩
  | 42 => ⟨S3, .i32⟩
  | 43 => ⟨S3, .i32⟩
  | 44 => ⟨S3, .i32⟩
  | 45 => ⟨S3, .i32⟩
  | 46 => ⟨S3, .i32⟩
  | 47 => ⟨S_, .i32⟩
  | 48 => ⟨S3, .i32⟩
  | 49 => ⟨S3, .i32⟩
  | 50 => ⟨S_, .i32⟩
  | 51 => ⟨S3, .i32⟩
  | 52 => ⟨S3, .i32⟩
  | 53 => ⟨S3, .i32⟩
  | 54 => ⟨S3, .i32⟩
  | 55 => ⟨S3, .i32⟩
  | 56 => ⟨S_, .i32⟩
  | 57 => ⟨S3, .i32⟩
  | 58 => ⟨S3, .i32⟩
  | 59 => ⟨S_, .i32⟩
  | 60 => ⟨S3, .i32⟩
  | 61 => ⟨S3, .i32⟩
  | 62 => ⟨S3, .i32⟩
  | 63 => ⟨S3, .i32⟩
  | 64 => ⟨S3, .i32⟩
  | 65 => ⟨S3, .i32⟩
  | 66 => ⟨S_, .i32⟩
  | 67 => ⟨S_, .i32⟩
  | 68 => ⟨S3, .i32⟩
  | 69 => ⟨S3, .i32⟩
  | 70 => ⟨S3, .i32⟩
  | 71 => ⟨S_, .i32⟩
  | 72 => ⟨S3, .i32⟩
  | 73 => ⟨S3, .i32⟩
  | 74 => ⟨S_, .i32⟩
  | 75 => ⟨S3, .i32⟩
  | 76 => ⟨S3, .i32⟩
  | 77 => ⟨S3, .i32⟩
  | 78 => ⟨S3, .i32⟩
  | 79 => ⟨S3, .i32⟩
  | 80 => ⟨S_, .i32⟩
  | 81 => ⟨S3, .i32⟩
  | 82 => ⟨S3, .i32⟩
  | 83 => ⟨S_, .i32⟩
  | 84 => ⟨S3, .i32⟩
  | 85 => ⟨S3, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S_, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S3, .i32⟩
  | 106 => ⟨S3, .i32⟩
  | 107 => ⟨S3, .i32⟩
  | 108 => ⟨S_, .i32⟩
  | 109 => ⟨S_, .i32⟩
  | 110 => ⟨S3, .i32⟩
  | 111 => ⟨S3, .i32⟩
  | 112 => ⟨S3x1, .i32⟩
  | 113 => ⟨S3x1, .i32⟩
  | 114 => ⟨S3x2, .i32⟩
  | 115 => ⟨S1x2, .i32⟩
  | 116 => ⟨S2, .i32⟩
  | 117 => ⟨S1x2, .i32⟩
  | 118 => ⟨S2, .i32⟩
  | 119 => ⟨S1x2, .i32⟩
  | 120 => ⟨S2, .i32⟩
  | 121 => ⟨S2x4, .f32⟩
  | 122 => ⟨S4, .f32⟩
  | 123 => ⟨S4, .f32⟩
  | 124 => ⟨S4, .f32⟩
  | 125 => ⟨S_, .f32⟩
  | 126 => ⟨S4, .f32⟩
  | 127 => ⟨S4, .f32⟩
  | _ => ⟨S131072x2, .f32⟩

abbrev hbmTy0_2 (i : Nat) : BufTy := match i % 128 with
  | 0 => ⟨S4, .f32⟩
  | 1 => ⟨S4x4, .f32⟩
  | 2 => ⟨S4, .f32⟩
  | 3 => ⟨S4, .f32⟩
  | 4 => ⟨S_, .f32⟩
  | 5 => ⟨S_, .f32⟩
  | 6 => ⟨S1, .f32⟩
  | 7 => ⟨S4, .f32⟩
  | 8 => ⟨S4, .f32⟩
  | 9 => ⟨S4, .f32⟩
  | 10 => ⟨S_, .f32⟩
  | 11 => ⟨S_, .f32⟩
  | 12 => ⟨S1, .f32⟩
  | 13 => ⟨S1, .f32⟩
  | 14 => ⟨S1, .f32⟩
  | 15 => ⟨S4, .f32⟩
  | 16 => ⟨S4, .f32⟩
  | 17 => ⟨S131072x4, .f32⟩
  | 18 => ⟨S131072x4, .i32⟩
  | 19 => ⟨S131072x4, .i32⟩
  | 20 => ⟨S_, .i32⟩
  | 21 => ⟨S131072x4, .i32⟩
  | 22 => ⟨S_, .i32⟩
  | 23 => ⟨S131072x4, .i32⟩
  | 24 => ⟨S131072x4, .i32⟩
  | 25 => ⟨S131072x4, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S_, .i32⟩
  | 34 => ⟨S_, .i32⟩
  | 35 => ⟨S_, .i32⟩
  | 36 => ⟨S_, .i32⟩
  | 37 => ⟨S131072x4, .i32⟩
  | 38 => ⟨S131072x4, .i32⟩
  | 39 => ⟨S131072x4, .i32⟩
  | 40 => ⟨S131072x4, .i32⟩
  | 41 => ⟨S131072x4, .i32⟩
  | 42 => ⟨S_, .i32⟩
  | 43 => ⟨S131072x4, .i32⟩
  | 44 => ⟨S131072x4, .i32⟩
  | 45 => ⟨S_, .i32⟩
  | 46 => ⟨S131072x4, .i32⟩
  | 47 => ⟨S131072x4, .i32⟩
  | 48 => ⟨S131072x4, .i32⟩
  | 49 => ⟨S131072x4, .i32⟩
  | 50 => ⟨S131072x4, .i32⟩
  | 51 => ⟨S_, .i32⟩
  | 52 => ⟨S131072x4, .i32⟩
  | 53 => ⟨S131072x4, .i32⟩
  | 54 => ⟨S_, .i32⟩
  | 55 => ⟨S131072x4, .i32⟩
  | 56 => ⟨S131072x4, .i32⟩
  | 57 => ⟨S131072x4, .i32⟩
  | 58 => ⟨S131072x4, .i32⟩
  | 59 => ⟨S131072x4, .i32⟩
  | 60 => ⟨S_, .i32⟩
  | 61 => ⟨S131072x4, .i32⟩
  | 62 => ⟨S131072x4, .i32⟩
  | 63 => ⟨S_, .i32⟩
  | 64 => ⟨S131072x4, .i32⟩
  | 65 => ⟨S131072x4, .i32⟩
  | 66 => ⟨S131072x4, .i32⟩
  | 67 => ⟨S131072x4, .i32⟩
  | 68 => ⟨S131072x4, .i32⟩
  | 69 => ⟨S_, .i32⟩
  | 70 => ⟨S131072x4, .i32⟩
  | 71 => ⟨S131072x4, .i32⟩
  | 72 => ⟨S_, .i32⟩
  | 73 => ⟨S131072x4, .i32⟩
  | 74 => ⟨S131072x4, .i32⟩
  | 75 => ⟨S131072x4, .i32⟩
  | 76 => ⟨S131072x4, .i32⟩
  | 77 => ⟨S131072x4, .i32⟩
  | 78 => ⟨S131072x4, .i32⟩
  | 79 => ⟨S_, .i32⟩
  | 80 => ⟨S_, .i32⟩
  | 81 => ⟨S131072x4, .i32⟩
  | 82 => ⟨S131072x4, .i32⟩
  | 83 => ⟨S131072x4, .i32⟩
  | 84 => ⟨S_, .i32⟩
  | 85 => ⟨S131072x4, .i32⟩
  | 86 => ⟨S131072x4, .i32⟩
  | 87 => ⟨S_, .i32⟩
  | 88 => ⟨S131072x4, .i32⟩
  | 89 => ⟨S131072x4, .i32⟩
  | 90 => ⟨S131072x4, .i32⟩
  | 91 => ⟨S131072x4, .i32⟩
  | 92 => ⟨S131072x4, .i32⟩
  | 93 => ⟨S_, .i32⟩
  | 94 => ⟨S131072x4, .i32⟩
  | 95 => ⟨S131072x4, .i32⟩
  | 96 => ⟨S_, .i32⟩
  | 97 => ⟨S131072x4, .i32⟩
  | 98 => ⟨S131072x4, .i32⟩
  | 99 => ⟨S131072x4, .i32⟩
  | 100 => ⟨S131072x4, .i32⟩
  | 101 => ⟨S131072x4, .i32⟩
  | 102 => ⟨S_, .i32⟩
  | 103 => ⟨S131072x4, .i32⟩
  | 104 => ⟨S131072x4, .i32⟩
  | 105 => ⟨S_, .i32⟩
  | 106 => ⟨S131072x4, .i32⟩
  | 107 => ⟨S131072x4, .i32⟩
  | 108 => ⟨S131072x4, .i32⟩
  | 109 => ⟨S131072x4, .i32⟩
  | 110 => ⟨S131072x4, .i32⟩
  | 111 => ⟨S_, .i32⟩
  | 112 => ⟨S131072x4, .i32⟩
  | 113 => ⟨S131072x4, .i32⟩
  | 114 => ⟨S_, .i32⟩
  | 115 => ⟨S131072x4, .i32⟩
  | 116 => ⟨S131072x4, .i32⟩
  | 117 => ⟨S131072x4, .i32⟩
  | 118 => ⟨S131072x4, .i32⟩
  | 119 => ⟨S131072x4, .i32⟩
  | 120 => ⟨S131072x4, .i32⟩
  | 121 => ⟨S_, .i32⟩
  | 122 => ⟨S_, .i32⟩
  | 123 => ⟨S131072x4, .i32⟩
  | 124 => ⟨S131072x4, .i32⟩
  | 125 => ⟨S131072x4, .i32⟩
  | 126 => ⟨S_, .i32⟩
  | 127 => ⟨S131072x4, .i32⟩
  | _ => ⟨S131072x2, .f32⟩

abbrev hbmTy0_3 (i : Nat) : BufTy := match i % 128 with
  | 0 => ⟨S131072x4, .i32⟩
  | 1 => ⟨S_, .i32⟩
  | 2 => ⟨S131072x4, .i32⟩
  | 3 => ⟨S131072x4, .i32⟩
  | 4 => ⟨S131072x4, .i32⟩
  | 5 => ⟨S131072x4, .i32⟩
  | 6 => ⟨S131072x4, .i32⟩
  | 7 => ⟨S_, .i32⟩
  | 8 => ⟨S131072x4, .i32⟩
  | 9 => ⟨S131072x4, .i32⟩
  | 10 => ⟨S_, .i32⟩
  | 11 => ⟨S131072x4, .i32⟩
  | 12 => ⟨S131072x4, .i32⟩
  | 13 => ⟨S131072x4, .i32⟩
  | 14 => ⟨S131072x4, .i32⟩
  | 15 => ⟨S131072x4, .i32⟩
  | 16 => ⟨S_, .i32⟩
  | 17 => ⟨S131072x4, .i32⟩
  | 18 => ⟨S131072x4, .i32⟩
  | 19 => ⟨S_, .i32⟩
  | 20 => ⟨S131072x4, .i32⟩
  | 21 => ⟨S131072x4, .i32⟩
  | 22 => ⟨S131072x4, .i32⟩
  | 23 => ⟨S131072x4, .i32⟩
  | 24 => ⟨S131072x4, .i32⟩
  | 25 => ⟨S_, .i32⟩
  | 26 => ⟨S131072x4, .i32⟩
  | 27 => ⟨S131072x4, .i32⟩
  | 28 => ⟨S_, .i32⟩
  | 29 => ⟨S131072x4, .i32⟩
  | 30 => ⟨S131072x4, .i32⟩
  | 31 => ⟨S131072x4, .i32⟩
  | 32 => ⟨S131072x4, .i32⟩
  | 33 => ⟨S131072x4, .i32⟩
  | 34 => ⟨S131072x4, .i32⟩
  | 35 => ⟨S_, .i32⟩
  | 36 => ⟨S_, .i32⟩
  | 37 => ⟨S131072x4, .i32⟩
  | 38 => ⟨S131072x4, .i32⟩
  | 39 => ⟨S131072x4, .i32⟩
  | 40 => ⟨S_, .i32⟩
  | 41 => ⟨S131072x4, .i32⟩
  | 42 => ⟨S131072x4, .i32⟩
  | 43 => ⟨S_, .i32⟩
  | 44 => ⟨S131072x4, .i32⟩
  | 45 => ⟨S131072x4, .i32⟩
  | 46 => ⟨S131072x4, .i32⟩
  | 47 => ⟨S131072x4, .i32⟩
  | 48 => ⟨S131072x4, .i32⟩
  | 49 => ⟨S_, .i32⟩
  | 50 => ⟨S131072x4, .i32⟩
  | 51 => ⟨S131072x4, .i32⟩
  | 52 => ⟨S_, .i32⟩
  | 53 => ⟨S131072x4, .i32⟩
  | 54 => ⟨S131072x4, .i32⟩
  | 55 => ⟨S131072x4, .i32⟩
  | 56 => ⟨S131072x4, .i32⟩
  | 57 => ⟨S131072x4, .i32⟩
  | 58 => ⟨S_, .i32⟩
  | 59 => ⟨S131072x4, .i32⟩
  | 60 => ⟨S131072x4, .i32⟩
  | 61 => ⟨S_, .i32⟩
  | 62 => ⟨S131072x4, .i32⟩
  | 63 => ⟨S131072x4, .i32⟩
  | 64 => ⟨S131072x4, .i32⟩
  | 65 => ⟨S131072x4, .i32⟩
  | 66 => ⟨S131072x4, .i32⟩
  | 67 => ⟨S_, .i32⟩
  | 68 => ⟨S131072x4, .i32⟩
  | 69 => ⟨S131072x4, .i32⟩
  | 70 => ⟨S_, .i32⟩
  | 71 => ⟨S131072x4, .i32⟩
  | 72 => ⟨S131072x4, .i32⟩
  | 73 => ⟨S131072x4, .i32⟩
  | 74 => ⟨S131072x4, .i32⟩
  | 75 => ⟨S131072x4, .i32⟩
  | 76 => ⟨S131072x4, .i32⟩
  | 77 => ⟨S_, .i32⟩
  | 78 => ⟨S_, .i32⟩
  | 79 => ⟨S131072x4, .i32⟩
  | 80 => ⟨S131072x4, .i32⟩
  | 81 => ⟨S131072x4, .i32⟩
  | 82 => ⟨S_, .i32⟩
  | 83 => ⟨S131072x4, .i32⟩
  | 84 => ⟨S131072x4, .i32⟩
  | 85 => ⟨S_, .i32⟩
  | 86 => ⟨S131072x4, .i32⟩
  | 87 => ⟨S131072x4, .i32⟩
  | 88 => ⟨S131072x4, .i32⟩
  | 89 => ⟨S131072x4, .i32⟩
  | 90 => ⟨S131072x4, .i32⟩
  | 91 => ⟨S_, .i32⟩
  | 92 => ⟨S131072x4, .i32⟩
  | 93 => ⟨S131072x4, .i32⟩
  | 94 => ⟨S_, .i32⟩
  | 95 => ⟨S131072x4, .i32⟩
  | 96 => ⟨S131072x4, .i32⟩
  | 97 => ⟨S131072x4, .i32⟩
  | 98 => ⟨S131072x4, .i32⟩
  | 99 => ⟨S131072x4, .i32⟩
  | 100 => ⟨S_, .i32⟩
  | 101 => ⟨S131072x4, .i32⟩
  | 102 => ⟨S131072x4, .i32⟩
  | 103 => ⟨S_, .i32⟩
  | 104 => ⟨S131072x4, .i32⟩
  | 105 => ⟨S131072x4, .i32⟩
  | 106 => ⟨S131072x4, .i32⟩
  | 107 => ⟨S131072x4, .i32⟩
  | 108 => ⟨S131072x4, .i32⟩
  | 109 => ⟨S_, .i32⟩
  | 110 => ⟨S131072x4, .i32⟩
  | 111 => ⟨S131072x4, .i32⟩
  | 112 => ⟨S_, .i32⟩
  | 113 => ⟨S131072x4, .i32⟩
  | 114 => ⟨S131072x4, .i32⟩
  | 115 => ⟨S131072x4, .i32⟩
  | 116 => ⟨S131072x4, .i32⟩
  | 117 => ⟨S131072x4, .i32⟩
  | 118 => ⟨S131072x4, .i32⟩
  | 119 => ⟨S_, .i32⟩
  | 120 => ⟨S_, .i32⟩
  | 121 => ⟨S131072x4, .i32⟩
  | 122 => ⟨S131072x4, .i32⟩
  | 123 => ⟨S131072x4, .i32⟩
  | 124 => ⟨S_, .i32⟩
  | 125 => ⟨S131072x4, .i32⟩
  | 126 => ⟨S131072x4, .i32⟩
  | 127 => ⟨S_, .i32⟩
  | _ => ⟨S131072x2, .f32⟩

abbrev hbmTy0_4 (i : Nat) : BufTy := match i % 128 with
  | 0 => ⟨S131072x4, .i32⟩
  | 1 => ⟨S131072x4, .i32⟩
  | 2 => ⟨S131072x4, .f32⟩
  | 3 => ⟨S_, .f32⟩
  | 4 => ⟨S131072x4, .f32⟩
  | 5 => ⟨S131072x4, .f32⟩
  | 6 => ⟨S_, .f32⟩
  | 7 => ⟨S131072x4, .f32⟩
  | 8 => ⟨S131072x4, .f32⟩
  | 9 => ⟨S_, .f32⟩
  | 10 => ⟨S131072x4, .f32⟩
  | 11 => ⟨S131072x4, .f32⟩
  | 12 => ⟨S_, .f32⟩
  | 13 => ⟨S131072x4, .f32⟩
  | 14 => ⟨S131072x4, .f32⟩
  | 15 => ⟨S131072x4, .f32⟩
  | 16 => ⟨S131072x4, .f32⟩
  | 17 => ⟨S131072x4, .f32⟩
  | 18 => ⟨S131072x4, .f32⟩
  | 19 => ⟨S131072x4, .f32⟩
  | 20 => ⟨S_, .f32⟩
  | 21 => ⟨S131072, .f32⟩
  | 22 => ⟨S131072x1, .f32⟩
  | 23 => ⟨S131072x4, .f32⟩
  | 24 => ⟨S131072x4, .i1⟩
  | 25 => ⟨S131072x4, .i32⟩
  | 26 => ⟨S_, .i32⟩
  | 27 => ⟨S_, .i32⟩
  | 28 => ⟨S131072x4, .i32⟩
  | 29 => ⟨S131072x4, .i32⟩
  | 30 => ⟨S_, .i32⟩
  | 31 => ⟨S131072, .i32⟩
  | 32 => ⟨S131072x1x1, .i32⟩
  | 33 => ⟨S_, .i32⟩
  | 34 => ⟨S131072x1x1, .i32⟩
  | 35 => ⟨S131072x1x1, .i1⟩
  | 36 => ⟨S_, .i32⟩
  | 37 => ⟨S131072x1x1, .i32⟩
  | 38 => ⟨S131072x1x1, .i32⟩
  | 39 => ⟨S131072x1x1, .i32⟩
  | 40 => ⟨S1, .i32⟩
  | 41 => ⟨S_, .i32⟩
  | 42 => ⟨S131072x1x1, .i32⟩
  | 43 => ⟨S131072x1x1, .i1⟩
  | 44 => ⟨S1x1x1, .i32⟩
  | 45 => ⟨S131072x1x1, .i32⟩
  | 46 => ⟨S131072x1x1, .i1⟩
  | 47 => ⟨S131072x1x1, .i1⟩
  | 48 => ⟨S_, .i1⟩
  | 49 => ⟨S131072x1, .i1⟩
  | 50 => ⟨S131072x1x4, .f32⟩
  | 51 => ⟨S131072x1x4, .i1⟩
  | 52 => ⟨S_, .f32⟩
  | 53 => ⟨S131072x1x4, .f32⟩
  | 54 => ⟨S131072x1x4, .f32⟩
  | 55 => ⟨S131072x4, .f32⟩
  | 56 => ⟨S131072x4, .i32⟩
  | 57 => ⟨S131072x4, .i32⟩
  | 58 => ⟨S_, .i32⟩
  | 59 => ⟨S131072x4, .i32⟩
  | 60 => ⟨S_, .i32⟩
  | 61 => ⟨S131072x4, .i32⟩
  | 62 => ⟨S131072x4, .i32⟩
  | 63 => ⟨S131072x4, .i32⟩
  | 64 => ⟨S1, .i32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S_, .i32⟩
  | 73 => ⟨S_, .i32⟩
  | 74 => ⟨S_, .i32⟩
  | 75 => ⟨S131072x4, .i32⟩
  | 76 => ⟨S131072x4, .i32⟩
  | 77 => ⟨S131072x4, .i32⟩
  | 78 => ⟨S131072x4, .i32⟩
  | 79 => ⟨S131072x4, .i32⟩
  | 80 => ⟨S_, .i32⟩
  | 81 => ⟨S131072x4, .i32⟩
  | 82 => ⟨S131072x4, .i32⟩
  | 83 => ⟨S_, .i32⟩
  | 84 => ⟨S131072x4, .i32⟩
  | 85 => ⟨S131072x4, .i32⟩
  | 86 => ⟨S131072x4, .i32⟩
  | 87 => ⟨S131072x4, .i32⟩
  | 88 => ⟨S131072x4, .i32⟩
  | 89 => ⟨S_, .i32⟩
  | 90 => ⟨S131072x4, .i32⟩
  | 91 => ⟨S131072x4, .i32⟩
  | 92 => ⟨S_, .i32⟩
  | 93 => ⟨S131072x4, .i32⟩
  | 94 => ⟨S131072x4, .i32⟩
  | 95 => ⟨S131072x4, .i32⟩
  | 96 => ⟨S131072x4, .i32⟩
  | 97 => ⟨S131072x4, .i32⟩
  | 98 => ⟨S_, .i32⟩
  | 99 => ⟨S131072x4, .i32⟩
  | 100 => ⟨S131072x4, .i32⟩
  | 101 => ⟨S_, .i32⟩
  | 102 => ⟨S131072x4, .i32⟩
  | 103 => ⟨S131072x4, .i32⟩
  | 104 => ⟨S131072x4, .i32⟩
  | 105 => ⟨S131072x4, .i32⟩
  | 106 => ⟨S131072x4, .i32⟩
  | 107 => ⟨S_, .i32⟩
  | 108 => ⟨S131072x4, .i32⟩
  | 109 => ⟨S131072x4, .i32⟩
  | 110 => ⟨S_, .i32⟩
  | 111 => ⟨S131072x4, .i32⟩
  | 112 => ⟨S131072x4, .i32⟩
  | 113 => ⟨S131072x4, .i32⟩
  | 114 => ⟨S131072x4, .i32⟩
  | 115 => ⟨S131072x4, .i32⟩
  | 116 => ⟨S131072x4, .i32⟩
  | 117 => ⟨S_, .i32⟩
  | 118 => ⟨S_, .i32⟩
  | 119 => ⟨S131072x4, .i32⟩
  | 120 => ⟨S131072x4, .i32⟩
  | 121 => ⟨S131072x4, .i32⟩
  | 122 => ⟨S_, .i32⟩
  | 123 => ⟨S131072x4, .i32⟩
  | 124 => ⟨S131072x4, .i32⟩
  | 125 => ⟨S_, .i32⟩
  | 126 => ⟨S131072x4, .i32⟩
  | 127 => ⟨S131072x4, .i32⟩
  | _ => ⟨S131072x2, .f32⟩

abbrev hbmTy0_5 (i : Nat) : BufTy := match i % 128 with
  | 0 => ⟨S131072x4, .i32⟩
  | 1 => ⟨S131072x4, .i32⟩
  | 2 => ⟨S131072x4, .i32⟩
  | 3 => ⟨S_, .i32⟩
  | 4 => ⟨S131072x4, .i32⟩
  | 5 => ⟨S131072x4, .i32⟩
  | 6 => ⟨S_, .i32⟩
  | 7 => ⟨S131072x4, .i32⟩
  | 8 => ⟨S131072x4, .i32⟩
  | 9 => ⟨S131072x4, .i32⟩
  | 10 => ⟨S131072x4, .i32⟩
  | 11 => ⟨S131072x4, .i32⟩
  | 12 => ⟨S_, .i32⟩
  | 13 => ⟨S131072x4, .i32⟩
  | 14 => ⟨S131072x4, .i32⟩
  | 15 => ⟨S_, .i32⟩
  | 16 => ⟨S131072x4, .i32⟩
  | 17 => ⟨S131072x4, .i32⟩
  | 18 => ⟨S131072x4, .i32⟩
  | 19 => ⟨S131072x4, .i32⟩
  | 20 => ⟨S131072x4, .i32⟩
  | 21 => ⟨S_, .i32⟩
  | 22 => ⟨S131072x4, .i32⟩
  | 23 => ⟨S131072x4, .i32⟩
  | 24 => ⟨S_, .i32⟩
  | 25 => ⟨S131072x4, .i32⟩
  | 26 => ⟨S131072x4, .i32⟩
  | 27 => ⟨S131072x4, .i32⟩
  | 28 => ⟨S131072x4, .i32⟩
  | 29 => ⟨S131072x4, .i32⟩
  | 30 => ⟨S131072x4, .i32⟩
  | 31 => ⟨S_, .i32⟩
  | 32 => ⟨S_, .i32⟩
  | 33 => ⟨S131072x4, .i32⟩
  | 34 => ⟨S131072x4, .i32⟩
  | 35 => ⟨S131072x4, .i32⟩
  | 36 => ⟨S_, .i32⟩
  | 37 => ⟨S131072x4, .i32⟩
  | 38 => ⟨S131072x4, .i32⟩
  | 39 => ⟨S_, .i32⟩
  | 40 => ⟨S131072x4, .i32⟩
  | 41 => ⟨S131072x4, .i32⟩
  | 42 => ⟨S131072x4, .i32⟩
  | 43 => ⟨S131072x4, .i32⟩
  | 44 => ⟨S131072x4, .i32⟩
  | 45 => ⟨S_, .i32⟩
  | 46 => ⟨S131072x4, .i32⟩
  | 47 => ⟨S131072x4, .i32⟩
  | 48 => ⟨S_, .i32⟩
  | 49 => ⟨S131072x4, .i32⟩
  | 50 => ⟨S131072x4, .i32⟩
  | 51 => ⟨S131072x4, .i32⟩
  | 52 => ⟨S131072x4, .i32⟩
  | 53 => ⟨S131072x4, .i32⟩
  | 54 => ⟨S_, .i32⟩
  | 55 => ⟨S131072x4, .i32⟩
  | 56 => ⟨S131072x4, .i32⟩
  | 57 => ⟨S_, .i32⟩
  | 58 => ⟨S131072x4, .i32⟩
  | 59 => ⟨S131072x4, .i32⟩
  | 60 => ⟨S131072x4, .i32⟩
  | 61 => ⟨S131072x4, .i32⟩
  | 62 => ⟨S131072x4, .i32⟩
  | 63 => ⟨S_, .i32⟩
  | 64 => ⟨S131072x4, .i32⟩
  | 65 => ⟨S131072x4, .i32⟩
  | 66 => ⟨S_, .i32⟩
  | 67 => ⟨S131072x4, .i32⟩
  | 68 => ⟨S131072x4, .i32⟩
  | 69 => ⟨S131072x4, .i32⟩
  | 70 => ⟨S131072x4, .i32⟩
  | 71 => ⟨S131072x4, .i32⟩
  | 72 => ⟨S131072x4, .i32⟩
  | 73 => ⟨S_, .i32⟩
  | 74 => ⟨S_, .i32⟩
  | 75 => ⟨S131072x4, .i32⟩
  | 76 => ⟨S131072x4, .i32⟩
  | 77 => ⟨S131072x4, .i32⟩
  | 78 => ⟨S_, .i32⟩
  | 79 => ⟨S131072x4, .i32⟩
  | 80 => ⟨S131072x4, .i32⟩
  | 81 => ⟨S_, .i32⟩
  | 82 => ⟨S131072x4, .i32⟩
  | 83 => ⟨S131072x4, .i32⟩
  | 84 => ⟨S131072x4, .i32⟩
  | 85 => ⟨S131072x4, .i32⟩
  | 86 => ⟨S131072x4, .i32⟩
  | 87 => ⟨S_, .i32⟩
  | 88 => ⟨S131072x4, .i32⟩
  | 89 => ⟨S131072x4, .i32⟩
  | 90 => ⟨S_, .i32⟩
  | 91 => ⟨S131072x4, .i32⟩
  | 92 => ⟨S131072x4, .i32⟩
  | 93 => ⟨S131072x4, .i32⟩
  | 94 => ⟨S131072x4, .i32⟩
  | 95 => ⟨S131072x4, .i32⟩
  | 96 => ⟨S_, .i32⟩
  | 97 => ⟨S131072x4, .i32⟩
  | 98 => ⟨S131072x4, .i32⟩
  | 99 => ⟨S_, .i32⟩
  | 100 => ⟨S131072x4, .i32⟩
  | 101 => ⟨S131072x4, .i32⟩
  | 102 => ⟨S131072x4, .i32⟩
  | 103 => ⟨S131072x4, .i32⟩
  | 104 => ⟨S131072x4, .i32⟩
  | 105 => ⟨S_, .i32⟩
  | 106 => ⟨S131072x4, .i32⟩
  | 107 => ⟨S131072x4, .i32⟩
  | 108 => ⟨S_, .i32⟩
  | 109 => ⟨S131072x4, .i32⟩
  | 110 => ⟨S131072x4, .i32⟩
  | 111 => ⟨S131072x4, .i32⟩
  | 112 => ⟨S131072x4, .i32⟩
  | 113 => ⟨S131072x4, .i32⟩
  | 114 => ⟨S131072x4, .i32⟩
  | 115 => ⟨S_, .i32⟩
  | 116 => ⟨S_, .i32⟩
  | 117 => ⟨S131072x4, .i32⟩
  | 118 => ⟨S131072x4, .i32⟩
  | 119 => ⟨S131072x4, .i32⟩
  | 120 => ⟨S_, .i32⟩
  | 121 => ⟨S131072x4, .i32⟩
  | 122 => ⟨S131072x4, .i32⟩
  | 123 => ⟨S_, .i32⟩
  | 124 => ⟨S131072x4, .i32⟩
  | 125 => ⟨S131072x4, .i32⟩
  | 126 => ⟨S131072x4, .i32⟩
  | 127 => ⟨S131072x4, .i32⟩
  | _ => ⟨S131072x2, .f32⟩

abbrev hbmTy0_6 (i : Nat) : BufTy := match i % 128 with
  | 0 => ⟨S131072x4, .i32⟩
  | 1 => ⟨S_, .i32⟩
  | 2 => ⟨S131072x4, .i32⟩
  | 3 => ⟨S131072x4, .i32⟩
  | 4 => ⟨S_, .i32⟩
  | 5 => ⟨S131072x4, .i32⟩
  | 6 => ⟨S131072x4, .i32⟩
  | 7 => ⟨S131072x4, .i32⟩
  | 8 => ⟨S131072x4, .i32⟩
  | 9 => ⟨S131072x4, .i32⟩
  | 10 => ⟨S_, .i32⟩
  | 11 => ⟨S131072x4, .i32⟩
  | 12 => ⟨S131072x4, .i32⟩
  | 13 => ⟨S_, .i32⟩
  | 14 => ⟨S131072x4, .i32⟩
  | 15 => ⟨S131072x4, .i32⟩
  | 16 => ⟨S131072x4, .i32⟩
  | 17 => ⟨S131072x4, .i32⟩
  | 18 => ⟨S131072x4, .i32⟩
  | 19 => ⟨S_, .i32⟩
  | 20 => ⟨S131072x4, .i32⟩
  | 21 => ⟨S131072x4, .i32⟩
  | 22 => ⟨S_, .i32⟩
  | 23 => ⟨S131072x4, .i32⟩
  | 24 => ⟨S131072x4, .i32⟩
  | 25 => ⟨S131072x4, .i32⟩
  | 26 => ⟨S131072x4, .i32⟩
  | 27 => ⟨S131072x4, .i32⟩
  | 28 => ⟨S131072x4, .i32⟩
  | 29 => ⟨S_, .i32⟩
  | 30 => ⟨S_, .i32⟩
  | 31 => ⟨S131072x4, .i32⟩
  | 32 => ⟨S131072x4, .i32⟩
  | 33 => ⟨S131072x4, .i32⟩
  | 34 => ⟨S_, .i32⟩
  | 35 => ⟨S131072x4, .i32⟩
  | 36 => ⟨S131072x4, .i32⟩
  | 37 => ⟨S_, .i32⟩
  | 38 => ⟨S131072x4, .i32⟩
  | 39 => ⟨S131072x4, .i32⟩
  | 40 => ⟨S131072x4, .f32⟩
  | 41 => ⟨S_, .f32⟩
  | 42 => ⟨S131072x4, .f32⟩
  | 43 => ⟨S131072x4, .f32⟩
  | 44 => ⟨S_, .f32⟩
  | 45 => ⟨S131072x4, .f32⟩
  | 46 => ⟨S131072x4, .f32⟩
  | 47 => ⟨S_, .f32⟩
  | 48 => ⟨S131072x4, .f32⟩
  | 49 => ⟨S131072x4, .f32⟩
  | 50 => ⟨S_, .f32⟩
  | 51 => ⟨S131072x4, .f32⟩
  | 52 => ⟨S131072x4, .f32⟩
  | 53 => ⟨S131072x4, .f32⟩
  | 54 => ⟨S131072x4, .f32⟩
  | 55 => ⟨S131072x4, .f32⟩
  | 56 => ⟨S131072x4, .f32⟩
  | 57 => ⟨S131072x4, .f32⟩
  | 58 => ⟨S131072x4, .f32⟩
  | 59 => ⟨S_, .f32⟩
  | 60 => ⟨S131072, .f32⟩
  | 61 => ⟨S131072x1, .f32⟩
  | 62 => ⟨S131072x4, .f32⟩
  | 63 => ⟨S131072x4, .i1⟩
  | 64 => ⟨S131072x4, .i32⟩
  | 65 => ⟨S_, .i32⟩
  | 66 => ⟨S_, .i32⟩
  | 67 => ⟨S131072x4, .i32⟩
  | 68 => ⟨S131072x4, .i32⟩
  | 69 => ⟨S_, .i32⟩
  | 70 => ⟨S131072, .i32⟩
  | 71 => ⟨S131072x1x1, .i32⟩
  | 72 => ⟨S_, .i32⟩
  | 73 => ⟨S131072x1x1, .i32⟩
  | 74 => ⟨S131072x1x1, .i1⟩
  | 75 => ⟨S_, .i32⟩
  | 76 => ⟨S131072x1x1, .i32⟩
  | 77 => ⟨S131072x1x1, .i32⟩
  | 78 => ⟨S131072x1x1, .i32⟩
  | 79 => ⟨S1, .i32⟩
  | 80 => ⟨S_, .i32⟩
  | 81 => ⟨S131072x1x1, .i32⟩
  | 82 => ⟨S131072x1x1, .i1⟩
  | 83 => ⟨S1x1x1, .i32⟩
  | 84 => ⟨S131072x1x1, .i32⟩
  | 85 => ⟨S131072x1x1, .i1⟩
  | 86 => ⟨S131072x1x1, .i1⟩
  | 87 => ⟨S_, .i1⟩
  | 88 => ⟨S131072x1, .i1⟩
  | 89 => ⟨S131072x1x2, .f32⟩
  | 90 => ⟨S131072x1x2, .i1⟩
  | 91 => ⟨S_, .f32⟩
  | 92 => ⟨S131072x1x2, .f32⟩
  | 93 => ⟨S131072x1x2, .f32⟩
  | 94 => ⟨S131072x2, .f32⟩
  | 95 => ⟨S131072x1x1x1, .i32⟩
  | 96 => ⟨S_, .i32⟩
  | 97 => ⟨S131072x1x1x1, .i32⟩
  | 98 => ⟨S131072x1x1x1, .i1⟩
  | 99 => ⟨S_, .i32⟩
  | 100 => ⟨S131072x1x1x1, .i32⟩
  | 101 => ⟨S131072x1x1x1, .i32⟩
  | 102 => ⟨S131072x1x1x1, .i32⟩
  | 103 => ⟨S131072x1x1, .i32⟩
  | 104 => ⟨S1, .i32⟩
  | 105 => ⟨S_, .i32⟩
  | 106 => ⟨S131072x1x1, .i32⟩
  | 107 => ⟨S131072x1x1, .i1⟩
  | 108 => ⟨S1x1x1, .i32⟩
  | 109 => ⟨S131072x1x1, .i32⟩
  | 110 => ⟨S131072x1x1, .i1⟩
  | 111 => ⟨S131072x1x1, .i1⟩
  | 112 => ⟨S_, .i1⟩
  | 113 => ⟨S131072x1, .i1⟩
  | 114 => ⟨S131072x1x2x2, .f32⟩
  | 115 => ⟨S131072x1x2x2, .i1⟩
  | 116 => ⟨S_, .f32⟩
  | 117 => ⟨S131072x1x2x2, .f32⟩
  | 118 => ⟨S131072x1x2x2, .f32⟩
  | 119 => ⟨S131072x2x2, .f32⟩
  | 120 => ⟨S2, .i32⟩
  | 121 => ⟨S2, .i32⟩
  | 122 => ⟨S_, .i32⟩
  | 123 => ⟨S2, .i32⟩
  | 124 => ⟨S2, .i1⟩
  | 125 => ⟨S_, .i32⟩
  | 126 => ⟨S2, .i32⟩
  | 127 => ⟨S2, .i32⟩
  | _ => ⟨S131072x2, .f32⟩

abbrev hbmTy0_7 (i : Nat) : BufTy := match i % 128 with
  | 0 => ⟨S2, .i32⟩
  | 1 => ⟨S_, .i32⟩
  | 2 => ⟨S2, .i32⟩
  | 3 => ⟨S2, .i1⟩
  | 4 => ⟨S_, .i32⟩
  | 5 => ⟨S2, .i32⟩
  | 6 => ⟨S2, .i32⟩
  | 7 => ⟨S2, .i32⟩
  | 8 => ⟨S2x1, .i32⟩
  | 9 => ⟨S2x1, .i32⟩
  | 10 => ⟨S2x2, .i32⟩
  | 11 => ⟨S131072x2, .f32⟩
  | 12 => ⟨S131072x2, .f32⟩
  | 13 => ⟨S2x2, .i32⟩
  | 14 => ⟨S_, .i32⟩
  | 15 => ⟨S2x2, .i32⟩
  | 16 => ⟨S2x2, .i32⟩
  | 17 => ⟨S2x2, .i32⟩
  | 18 => ⟨S2x2, .i1⟩
  | 19 => ⟨S131072x2x2, .i1⟩
  | 20 => ⟨S_, .f32⟩
  | 21 => ⟨S131072x2x2, .f32⟩
  | 22 => ⟨S131072x2x2, .f32⟩
  | 23 => ⟨S131072x2x1, .f32⟩
  | 24 => ⟨S2x2, .i32⟩
  | 25 => ⟨S2x2, .i32⟩
  | 26 => ⟨S_, .i32⟩
  | 27 => ⟨S2x2, .i32⟩
  | 28 => ⟨S2x2, .i32⟩
  | 29 => ⟨S2x2, .i1⟩
  | 30 => ⟨S2x2, .f32⟩
  | 31 => ⟨S1x2x2, .f32⟩
  | 32 => ⟨S131072x2x2, .f32⟩
  | 33 => ⟨S131072x2x2, .f32⟩
  | 34 => ⟨S131072x2x2, .f32⟩
  | 35 => ⟨S131072x2x2, .f32⟩
  | 36 => ⟨S131072x2, .i32⟩
  | 37 => ⟨S131072x2, .i32⟩
  | 38 => ⟨S_, .i32⟩
  | 39 => ⟨S131072x2, .i32⟩
  | 40 => ⟨S_, .i32⟩
  | 41 => ⟨S131072x2, .i32⟩
  | 42 => ⟨S131072x2, .i32⟩
  | 43 => ⟨S131072x2, .i32⟩
  | 44 => ⟨S1, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S_, .i32⟩
  | 53 => ⟨S_, .i32⟩
  | 54 => ⟨S_, .i32⟩
  | 55 => ⟨S131072x2, .i32⟩
  | 56 => ⟨S131072x2, .i32⟩
  | 57 => ⟨S131072x2, .i32⟩
  | 58 => ⟨S131072x2, .i32⟩
  | 59 => ⟨S131072x2, .i32⟩
  | 60 => ⟨S_, .i32⟩
  | 61 => ⟨S131072x2, .i32⟩
  | 62 => ⟨S131072x2, .i32⟩
  | 63 => ⟨S_, .i32⟩
  | 64 => ⟨S131072x2, .i32⟩
  | 65 => ⟨S131072x2, .i32⟩
  | 66 => ⟨S131072x2, .i32⟩
  | 67 => ⟨S131072x2, .i32⟩
  | 68 => ⟨S131072x2, .i32⟩
  | 69 => ⟨S_, .i32⟩
  | 70 => ⟨S131072x2, .i32⟩
  | 71 => ⟨S131072x2, .i32⟩
  | 72 => ⟨S_, .i32⟩
  | 73 => ⟨S131072x2, .i32⟩
  | 74 => ⟨S131072x2, .i32⟩
  | 75 => ⟨S131072x2, .i32⟩
  | 76 => ⟨S131072x2, .i32⟩
  | 77 => ⟨S131072x2, .i32⟩
  | 78 => ⟨S_, .i32⟩
  | 79 => ⟨S131072x2, .i32⟩
  | 80 => ⟨S131072x2, .i32⟩
  | 81 => ⟨S_, .i32⟩
  | 82 => ⟨S131072x2, .i32⟩
  | 83 => ⟨S131072x2, .i32⟩
  | 84 => ⟨S131072x2, .i32⟩
  | 85 => ⟨S131072x2, .i32⟩
  | 86 => ⟨S131072x2, .i32⟩
  | 87 => ⟨S_, .i32⟩
  | 88 => ⟨S131072x2, .i32⟩
  | 89 => ⟨S131072x2, .i32⟩
  | 90 => ⟨S_, .i32⟩
  | 91 => ⟨S131072x2, .i32⟩
  | 92 => ⟨S131072x2, .i32⟩
  | 93 => ⟨S131072x2, .i32⟩
  | 94 => ⟨S131072x2, .i32⟩
  | 95 => ⟨S131072x2, .i32⟩
  | 96 => ⟨S131072x2, .i32⟩
  | 97 => ⟨S_, .i32⟩
  | 98 => ⟨S_, .i32⟩
  | 99 => ⟨S131072x2, .i32⟩
  | 100 => ⟨S131072x2, .i32⟩
  | 101 => ⟨S131072x2, .i32⟩
  | 102 => ⟨S_, .i32⟩
  | 103 => ⟨S131072x2, .i32⟩
  | 104 => ⟨S131072x2, .i32⟩
  | 105 => ⟨S_, .i32⟩
  | 106 => ⟨S131072x2, .i32⟩
  | 107 => ⟨S131072x2, .i32⟩
  | 108 => ⟨S131072x2, .i32⟩
  | 109 => ⟨S131072x2, .i32⟩
  | 110 => ⟨S131072x2, .i32⟩
  | 111 => ⟨S_, .i32⟩
  | 112 => ⟨S131072x2, .i32⟩
  | 113 => ⟨S131072x2, .i32⟩
  | 114 => ⟨S_, .i32⟩
  | 115 => ⟨S131072x2, .i32⟩
  | 116 => ⟨S131072x2, .i32⟩
  | 117 => ⟨S131072x2, .i32⟩
  | 118 => ⟨S131072x2, .i32⟩
  | 119 => ⟨S131072x2, .i32⟩
  | 120 => ⟨S_, .i32⟩
  | 121 => ⟨S131072x2, .i32⟩
  | 122 => ⟨S131072x2, .i32⟩
  | 123 => ⟨S_, .i32⟩
  | 124 => ⟨S131072x2, .i32⟩
  | 125 => ⟨S131072x2, .i32⟩
  | 126 => ⟨S131072x2, .i32⟩
  | 127 => ⟨S131072x2, .i32⟩
  | _ => ⟨S131072x2, .f32⟩

abbrev hbmTy0_8 (i : Nat) : BufTy := match i % 128 with
  | 0 => ⟨S131072x2, .i32⟩
  | 1 => ⟨S_, .i32⟩
  | 2 => ⟨S131072x2, .i32⟩
  | 3 => ⟨S131072x2, .i32⟩
  | 4 => ⟨S_, .i32⟩
  | 5 => ⟨S131072x2, .i32⟩
  | 6 => ⟨S131072x2, .i32⟩
  | 7 => ⟨S131072x2, .i32⟩
  | 8 => ⟨S131072x2, .i32⟩
  | 9 => ⟨S131072x2, .i32⟩
  | 10 => ⟨S131072x2, .i32⟩
  | 11 => ⟨S_, .i32⟩
  | 12 => ⟨S_, .i32⟩
  | 13 => ⟨S131072x2, .i32⟩
  | 14 => ⟨S131072x2, .i32⟩
  | 15 => ⟨S131072x2, .i32⟩
  | 16 => ⟨S_, .i32⟩
  | 17 => ⟨S131072x2, .i32⟩
  | 18 => ⟨S131072x2, .i32⟩
  | 19 => ⟨S_, .i32⟩
  | 20 => ⟨S131072x2, .i32⟩
  | 21 => ⟨S131072x2, .i32⟩
  | 22 => ⟨S131072x2, .i32⟩
  | 23 => ⟨S131072x2, .i32⟩
  | 24 => ⟨S131072x2, .i32⟩
  | 25 => ⟨S_, .i32⟩
  | 26 => ⟨S131072x2, .i32⟩
  | 27 => ⟨S131072x2, .i32⟩
  | 28 => ⟨S_, .i32⟩
  | 29 => ⟨S131072x2, .i32⟩
  | 30 => ⟨S131072x2, .i32⟩
  | 31 => ⟨S131072x2, .i32⟩
  | 32 => ⟨S131072x2, .i32⟩
  | 33 => ⟨S131072x2, .i32⟩
  | 34 => ⟨S_, .i32⟩
  | 35 => ⟨S131072x2, .i32⟩
  | 36 => ⟨S131072x2, .i32⟩
  | 37 => ⟨S_, .i32⟩
  | 38 => ⟨S131072x2, .i32⟩
  | 39 => ⟨S131072x2, .i32⟩
  | 40 => ⟨S131072x2, .i32⟩
  | 41 => ⟨S131072x2, .i32⟩
  | 42 => ⟨S131072x2, .i32⟩
  | 43 => ⟨S_, .i32⟩
  | 44 => ⟨S131072x2, .i32⟩
  | 45 => ⟨S131072x2, .i32⟩
  | 46 => ⟨S_, .i32⟩
  | 47 => ⟨S131072x2, .i32⟩
  | 48 => ⟨S131072x2, .i32⟩
  | 49 => ⟨S131072x2, .i32⟩
  | 50 => ⟨S131072x2, .i32⟩
  | 51 => ⟨S131072x2, .i32⟩
  | 52 => ⟨S131072x2, .i32⟩
  | 53 => ⟨S_, .i32⟩
  | 54 => ⟨S_, .i32⟩
  | 55 => ⟨S131072x2, .i32⟩
  | 56 => ⟨S131072x2, .i32⟩
  | 57 => ⟨S131072x2, .i32⟩
  | 58 => ⟨S_, .i32⟩
  | 59 => ⟨S131072x2, .i32⟩
  | 60 => ⟨S131072x2, .i32⟩
  | 61 => ⟨S_, .i32⟩
  | 62 => ⟨S131072x2, .i32⟩
  | 63 => ⟨S131072x2, .i32⟩
  | 64 => ⟨S131072x2, .i32⟩
  | 65 => ⟨S131072x2, .i32⟩
  | 66 => ⟨S131072x2, .i32⟩
  | 67 => ⟨S_, .i32⟩
  | 68 => ⟨S131072x2, .i32⟩
  | 69 => ⟨S131072x2, .i32⟩
  | 70 => ⟨S_, .i32⟩
  | 71 => ⟨S131072x2, .i32⟩
  | 72 => ⟨S131072x2, .i32⟩
  | 73 => ⟨S131072x2, .i32⟩
  | 74 => ⟨S131072x2, .i32⟩
  | 75 => ⟨S131072x2, .i32⟩
  | 76 => ⟨S_, .i32⟩
  | 77 => ⟨S131072x2, .i32⟩
  | 78 => ⟨S131072x2, .i32⟩
  | 79 => ⟨S_, .i32⟩
  | 80 => ⟨S131072x2, .i32⟩
  | 81 => ⟨S131072x2, .i32⟩
  | 82 => ⟨S131072x2, .i32⟩
  | 83 => ⟨S131072x2, .i32⟩
  | 84 => ⟨S131072x2, .i32⟩
  | 85 => ⟨S_, .i32⟩
  | 86 => ⟨S131072x2, .i32⟩
  | 87 => ⟨S131072x2, .i32⟩
  | 88 => ⟨S_, .i32⟩
  | 89 => ⟨S131072x2, .i32⟩
  | 90 => ⟨S131072x2, .i32⟩
  | 91 => ⟨S131072x2, .i32⟩
  | 92 => ⟨S131072x2, .i32⟩
  | 93 => ⟨S131072x2, .i32⟩
  | 94 => ⟨S131072x2, .i32⟩
  | 95 => ⟨S_, .i32⟩
  | 96 => ⟨S_, .i32⟩
  | 97 => ⟨S131072x2, .i32⟩
  | 98 => ⟨S131072x2, .i32⟩
  | 99 => ⟨S131072x2, .i32⟩
  | 100 => ⟨S_, .i32⟩
  | 101 => ⟨S131072x2, .i32⟩
  | 102 => ⟨S131072x2, .i32⟩
  | 103 => ⟨S_, .i32⟩
  | 104 => ⟨S131072x2, .i32⟩
  | 105 => ⟨S131072x2, .i32⟩
  | 106 => ⟨S131072x2, .i32⟩
  | 107 => ⟨S131072x2, .i32⟩
  | 108 => ⟨S131072x2, .i32⟩
  | 109 => ⟨S_, .i32⟩
  | 110 => ⟨S131072x2, .i32⟩
  | 111 => ⟨S131072x2, .i32⟩
  | 112 => ⟨S_, .i32⟩
  | 113 => ⟨S131072x2, .i32⟩
  | 114 => ⟨S131072x2, .i32⟩
  | 115 => ⟨S131072x2, .i32⟩
  | 116 => ⟨S131072x2, .i32⟩
  | 117 => ⟨S131072x2, .i32⟩
  | 118 => ⟨S_, .i32⟩
  | 119 => ⟨S131072x2, .i32⟩
  | 120 => ⟨S131072x2, .i32⟩
  | 121 => ⟨S_, .i32⟩
  | 122 => ⟨S131072x2, .i32⟩
  | 123 => ⟨S131072x2, .i32⟩
  | 124 => ⟨S131072x2, .i32⟩
  | 125 => ⟨S131072x2, .i32⟩
  | 126 => ⟨S131072x2, .i32⟩
  | 127 => ⟨S_, .i32⟩
  | _ => ⟨S131072x2, .f32⟩

abbrev hbmTy0_9 (i : Nat) : BufTy := match i % 128 with
  | 0 => ⟨S131072x2, .i32⟩
  | 1 => ⟨S131072x2, .i32⟩
  | 2 => ⟨S_, .i32⟩
  | 3 => ⟨S131072x2, .i32⟩
  | 4 => ⟨S131072x2, .i32⟩
  | 5 => ⟨S131072x2, .i32⟩
  | 6 => ⟨S131072x2, .i32⟩
  | 7 => ⟨S131072x2, .i32⟩
  | 8 => ⟨S131072x2, .i32⟩
  | 9 => ⟨S_, .i32⟩
  | 10 => ⟨S_, .i32⟩
  | 11 => ⟨S131072x2, .i32⟩
  | 12 => ⟨S131072x2, .i32⟩
  | 13 => ⟨S131072x2, .i32⟩
  | 14 => ⟨S_, .i32⟩
  | 15 => ⟨S131072x2, .i32⟩
  | 16 => ⟨S131072x2, .i32⟩
  | 17 => ⟨S_, .i32⟩
  | 18 => ⟨S131072x2, .i32⟩
  | 19 => ⟨S131072x2, .i32⟩
  | 20 => ⟨S131072x2, .f32⟩
  | 21 => ⟨S_, .f32⟩
  | 22 => ⟨S131072x2, .f32⟩
  | 23 => ⟨S131072x2, .f32⟩
  | 24 => ⟨S_, .f32⟩
  | 25 => ⟨S131072x2, .f32⟩
  | 26 => ⟨S131072x2, .f32⟩
  | 27 => ⟨S_, .f32⟩
  | 28 => ⟨S131072x2, .f32⟩
  | 29 => ⟨S131072x2, .f32⟩
  | 30 => ⟨S_, .f32⟩
  | 31 => ⟨S131072x2, .f32⟩
  | 32 => ⟨S131072x2, .f32⟩
  | 33 => ⟨S131072x2, .f32⟩
  | 34 => ⟨S131072x2, .f32⟩
  | 35 => ⟨S131072x2, .f32⟩
  | 36 => ⟨S131072x2, .f32⟩
  | 37 => ⟨S_, .f32⟩
  | 38 => ⟨S131072x2, .f32⟩
  | 39 => ⟨S131072x2, .f32⟩
  | 40 => ⟨S_, .f32⟩
  | 41 => ⟨S131072x2, .f32⟩
  | 42 => ⟨S131072x2, .f32⟩
  | 43 => ⟨S_, .f32⟩
  | 44 => ⟨S131072x2, .f32⟩
  | 45 => ⟨S131072x2, .f32⟩
  | 46 => ⟨S_, .f32⟩
  | 47 => ⟨S131072x2, .f32⟩
  | 48 => ⟨S131072x2, .f32⟩
  | 49 => ⟨S131072x2, .f32⟩
  | 50 => ⟨S_, .f32⟩
  | 51 => ⟨S131072x2, .f32⟩
  | 52 => ⟨S131072x2, .f32⟩
  | 53 => ⟨S_, .f32⟩
  | 54 => ⟨S131072x2, .f32⟩
  | 55 => ⟨S131072x2, .f32⟩
  | 56 => ⟨S131072x2, .f32⟩
  | 57 => ⟨S_, .f32⟩
  | 58 => ⟨S131072x2, .f32⟩
  | 59 => ⟨S131072x2, .f32⟩
  | 60 => ⟨S_, .f32⟩
  | 61 => ⟨S131072x2, .f32⟩
  | 62 => ⟨S131072x2, .f32⟩
  | 63 => ⟨S131072x2, .f32⟩
  | 64 => ⟨S_, .f32⟩
  | 65 => ⟨S131072x2, .f32⟩
  | 66 => ⟨S131072x2, .f32⟩
  | 67 => ⟨S_, .f32⟩
  | 68 => ⟨S131072x2, .f32⟩
  | 69 => ⟨S131072x2, .f32⟩
  | 70 => ⟨S131072x2, .f32⟩
  | 71 => ⟨S_, .f32⟩
  | 72 => ⟨S131072x2, .f32⟩
  | 73 => ⟨S131072x2, .f32⟩
  | 74 => ⟨S_, .f32⟩
  | 75 => ⟨S131072x2, .f32⟩
  | 76 => ⟨S131072x2, .f32⟩
  | 77 => ⟨S131072x2, .f32⟩
  | 78 => ⟨S_, .f32⟩
  | 79 => ⟨S131072x2, .f32⟩
  | 80 => ⟨S131072x2, .f32⟩
  | 81 => ⟨S_, .f32⟩
  | 82 => ⟨S131072x2, .f32⟩
  | 83 => ⟨S131072x2, .f32⟩
  | 84 => ⟨S131072x2, .f32⟩
  | 85 => ⟨S_, .f32⟩
  | 86 => ⟨S131072x2, .f32⟩
  | 87 => ⟨S131072x2, .f32⟩
  | 88 => ⟨S_, .f32⟩
  | 89 => ⟨S131072x2, .f32⟩
  | 90 => ⟨S131072x2, .f32⟩
  | 91 => ⟨S131072x2, .f32⟩
  | 92 => ⟨S_, .f32⟩
  | 93 => ⟨S131072x2, .f32⟩
  | 94 => ⟨S131072x2, .f32⟩
  | 95 => ⟨S131072x2, .f32⟩
  | 96 => ⟨S_, .f32⟩
  | 97 => ⟨S131072x2, .f32⟩
  | 98 => ⟨S131072x2, .f32⟩
  | 99 => ⟨S_, .f32⟩
  | 100 => ⟨S131072x2, .f32⟩
  | 101 => ⟨S131072x2, .f32⟩
  | 102 => ⟨S_, .f32⟩
  | 103 => ⟨S131072x2, .f32⟩
  | 104 => ⟨S131072x2, .f32⟩
  | 105 => ⟨S131072x2, .f32⟩
  | 106 => ⟨S_, .f32⟩
  | 107 => ⟨S131072x2, .f32⟩
  | 108 => ⟨S131072x2, .f32⟩
  | 109 => ⟨S131072x2, .f32⟩
  | 110 => ⟨S_, .f32⟩
  | 111 => ⟨S131072x2, .f32⟩
  | 112 => ⟨S131072x2, .f32⟩
  | 113 => ⟨S131072x2, .f32⟩
  | 114 => ⟨S_, .f32⟩
  | 115 => ⟨S131072x2, .f32⟩
  | 116 => ⟨S131072x2, .f32⟩
  | 117 => ⟨S131072x2, .f32⟩
  | 118 => ⟨S_, .f32⟩
  | 119 => ⟨S131072x2, .f32⟩
  | 120 => ⟨S131072x2, .f32⟩
  | 121 => ⟨S131072x2, .f32⟩
  | 122 => ⟨S_, .f32⟩
  | 123 => ⟨S131072x2, .f32⟩
  | 124 => ⟨S131072x2, .f32⟩
  | 125 => ⟨S131072x2, .f32⟩
  | 126 => ⟨S_, .f32⟩
  | 127 => ⟨S131072x2, .f32⟩
  | _ => ⟨S131072x2, .f32⟩

abbrev hbmTy0_10 (i : Nat) : BufTy := match i % 128 with
  | 0 => ⟨S131072x2, .f32⟩
  | 1 => ⟨S131072x2, .f32⟩
  | 2 => ⟨S_, .f32⟩
  | 3 => ⟨S131072x2, .f32⟩
  | 4 => ⟨S131072x2, .f32⟩
  | 5 => ⟨S131072x2, .f32⟩
  | 6 => ⟨S_, .f32⟩
  | 7 => ⟨S131072x2, .f32⟩
  | 8 => ⟨S131072x2, .f32⟩
  | 9 => ⟨S131072x2, .f32⟩
  | 10 => ⟨S_, .f32⟩
  | 11 => ⟨S131072x2, .f32⟩
  | 12 => ⟨S131072x2, .f32⟩
  | 13 => ⟨S131072x2, .f32⟩
  | 14 => ⟨S_, .f32⟩
  | 15 => ⟨S131072x2, .f32⟩
  | 16 => ⟨S131072x2, .f32⟩
  | 17 => ⟨S131072x2, .f32⟩
  | 18 => ⟨S_, .f32⟩
  | 19 => ⟨S131072x2, .f32⟩
  | 20 => ⟨S131072x2, .f32⟩
  | 21 => ⟨S131072x2, .f32⟩
  | 22 => ⟨S_, .f32⟩
  | 23 => ⟨S131072x2, .f32⟩
  | 24 => ⟨S131072x2, .f32⟩
  | 25 => ⟨S131072x2, .f32⟩
  | 26 => ⟨S_, .f32⟩
  | 27 => ⟨S131072x2, .f32⟩
  | 28 => ⟨S131072x2, .f32⟩
  | 29 => ⟨S131072x2, .f32⟩
  | 30 => ⟨S_, .f32⟩
  | 31 => ⟨S131072x2, .f32⟩
  | 32 => ⟨S131072x2, .f32⟩
  | 33 => ⟨S131072x2, .f32⟩
  | 34 => ⟨S_, .f32⟩
  | 35 => ⟨S131072x2, .f32⟩
  | 36 => ⟨S131072x2, .i1⟩
  | 37 => ⟨S_, .f32⟩
  | 38 => ⟨S131072x2, .f32⟩
  | 39 => ⟨S131072x2, .f32⟩
  | 40 => ⟨S_, .f32⟩
  | 41 => ⟨S131072x2, .f32⟩
  | 42 => ⟨S131072x2, .i1⟩
  | 43 => ⟨S131072x2, .f32⟩
  | 44 => ⟨S131072x2, .f32⟩
  | 45 => ⟨S131072x2, .f32⟩
  | 46 => ⟨S_, .f32⟩
  | 47 => ⟨S131072x2, .f32⟩
  | 48 => ⟨S131072x2, .f32⟩
  | 49 => ⟨S131072x2, .f32⟩
  | 50 => ⟨S131072x2, .f32⟩
  | 51 => ⟨S131072x2, .f32⟩
  | 52 => ⟨S1x131072, .i32⟩
  | _ => ⟨S131072x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S131072x2, .f32⟩

abbrev bufTy : (tb : Table) → Fin (tcTables nBuf tb) → BufTy
  | .hbm, ⟨i, _⟩ => hbmTy i
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_v2 : Ref sig .tc := ⟨.hbm, 33, rfl⟩
abbrev main_call0_c_0 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_c_1 : Ref sig .tc := ⟨.hbm, 40, rfl⟩
abbrev main_call0_v8 : Ref sig .tc := ⟨.hbm, 41, rfl⟩
abbrev main_call0_v9 : Ref sig .tc := ⟨.hbm, 42, rfl⟩
abbrev main_call0_c_2 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_c_3 : Ref sig .tc := ⟨.hbm, 49, rfl⟩
abbrev main_call0_v15 : Ref sig .tc := ⟨.hbm, 50, rfl⟩
abbrev main_call0_v16 : Ref sig .tc := ⟨.hbm, 51, rfl⟩
abbrev main_call0_c_4 : Ref sig .tc := ⟨.hbm, 52, rfl⟩
abbrev main_call0_v17 : Ref sig .tc := ⟨.hbm, 53, rfl⟩
abbrev main_call0_v18 : Ref sig .tc := ⟨.hbm, 54, rfl⟩
abbrev main_call0_v19 : Ref sig .tc := ⟨.hbm, 55, rfl⟩
abbrev main_call0_v20 : Ref sig .tc := ⟨.hbm, 56, rfl⟩
abbrev main_call0_v21 : Ref sig .tc := ⟨.hbm, 57, rfl⟩
abbrev main_call0_c_5 : Ref sig .tc := ⟨.hbm, 58, rfl⟩
abbrev main_call0_v22 : Ref sig .tc := ⟨.hbm, 59, rfl⟩
abbrev main_call0_v23 : Ref sig .tc := ⟨.hbm, 60, rfl⟩
abbrev main_call0_c_6 : Ref sig .tc := ⟨.hbm, 61, rfl⟩
abbrev main_call0_v24 : Ref sig .tc := ⟨.hbm, 62, rfl⟩
abbrev main_call0_v25 : Ref sig .tc := ⟨.hbm, 63, rfl⟩
abbrev main_call0_v26 : Ref sig .tc := ⟨.hbm, 64, rfl⟩
abbrev main_call0_v27 : Ref sig .tc := ⟨.hbm, 65, rfl⟩
abbrev main_call0_v28 : Ref sig .tc := ⟨.hbm, 66, rfl⟩
abbrev main_v16_0 : Ref sig .tc := ⟨.hbm, 67, rfl⟩
abbrev main_call0_c_7 : Ref sig .tc := ⟨.hbm, 68, rfl⟩
abbrev main_call0_v30 : Ref sig .tc := ⟨.hbm, 69, rfl⟩
abbrev main_call0_v31 : Ref sig .tc := ⟨.hbm, 70, rfl⟩
abbrev main_v16_1 : Ref sig .tc := ⟨.hbm, 71, rfl⟩
abbrev main_call1_v0 : Ref sig .tc := ⟨.hbm, 72, rfl⟩
abbrev main_call1_c : Ref sig .tc := ⟨.hbm, 73, rfl⟩
abbrev main_call1_v1 : Ref sig .tc := ⟨.hbm, 74, rfl⟩
abbrev main_call1_v2 : Ref sig .tc := ⟨.hbm, 75, rfl⟩
abbrev main_call1_c_0 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_c_1 : Ref sig .tc := ⟨.hbm, 82, rfl⟩
abbrev main_call1_v8 : Ref sig .tc := ⟨.hbm, 83, rfl⟩
abbrev main_call1_v9 : Ref sig .tc := ⟨.hbm, 84, rfl⟩
abbrev main_call1_c_2 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_c_3 : Ref sig .tc := ⟨.hbm, 91, rfl⟩
abbrev main_call1_v15 : Ref sig .tc := ⟨.hbm, 92, rfl⟩
abbrev main_call1_v16 : Ref sig .tc := ⟨.hbm, 93, rfl⟩
abbrev main_call1_c_4 : Ref sig .tc := ⟨.hbm, 94, rfl⟩
abbrev main_call1_v17 : Ref sig .tc := ⟨.hbm, 95, rfl⟩
abbrev main_call1_v18 : Ref sig .tc := ⟨.hbm, 96, rfl⟩
abbrev main_call1_v19 : Ref sig .tc := ⟨.hbm, 97, rfl⟩
abbrev main_call1_v20 : Ref sig .tc := ⟨.hbm, 98, rfl⟩
abbrev main_call1_v21 : Ref sig .tc := ⟨.hbm, 99, rfl⟩
abbrev main_call1_c_5 : Ref sig .tc := ⟨.hbm, 100, rfl⟩
abbrev main_call1_v22 : Ref sig .tc := ⟨.hbm, 101, rfl⟩
abbrev main_call1_v23 : Ref sig .tc := ⟨.hbm, 102, rfl⟩
abbrev main_call1_c_6 : Ref sig .tc := ⟨.hbm, 103, rfl⟩
abbrev main_call1_v24 : Ref sig .tc := ⟨.hbm, 104, rfl⟩
abbrev main_call1_v25 : Ref sig .tc := ⟨.hbm, 105, rfl⟩
abbrev main_call1_v26 : Ref sig .tc := ⟨.hbm, 106, rfl⟩
abbrev main_call1_v27 : Ref sig .tc := ⟨.hbm, 107, rfl⟩
abbrev main_call1_v28 : Ref sig .tc := ⟨.hbm, 108, rfl⟩
abbrev main_v17_0 : Ref sig .tc := ⟨.hbm, 109, rfl⟩
abbrev main_call1_c_7 : Ref sig .tc := ⟨.hbm, 110, rfl⟩
abbrev main_call1_v30 : Ref sig .tc := ⟨.hbm, 111, rfl⟩
abbrev main_call1_v31 : Ref sig .tc := ⟨.hbm, 112, rfl⟩
abbrev main_v17_1 : Ref sig .tc := ⟨.hbm, 113, rfl⟩
abbrev main_call2_v0 : Ref sig .tc := ⟨.hbm, 114, rfl⟩
abbrev main_call2_c : Ref sig .tc := ⟨.hbm, 115, rfl⟩
abbrev main_call2_v1 : Ref sig .tc := ⟨.hbm, 116, rfl⟩
abbrev main_call2_v2 : Ref sig .tc := ⟨.hbm, 117, rfl⟩
abbrev main_call2_c_0 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_c_1 : Ref sig .tc := ⟨.hbm, 124, rfl⟩
abbrev main_call2_v8 : Ref sig .tc := ⟨.hbm, 125, rfl⟩
abbrev main_call2_v9 : Ref sig .tc := ⟨.hbm, 126, rfl⟩
abbrev main_call2_c_2 : Ref sig .tc := ⟨.hbm, 127, rfl⟩
abbrev main_call2_v10 : Ref sig .tc := ⟨.hbm, 128, rfl⟩
abbrev main_call2_v11 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_c_3 : Ref sig .tc := ⟨.hbm, 133, rfl⟩
abbrev main_call2_v15 : Ref sig .tc := ⟨.hbm, 134, rfl⟩
abbrev main_call2_v16 : Ref sig .tc := ⟨.hbm, 135, rfl⟩
abbrev main_call2_c_4 : Ref sig .tc := ⟨.hbm, 136, rfl⟩
abbrev main_call2_v17 : Ref sig .tc := ⟨.hbm, 137, rfl⟩
abbrev main_call2_v18 : Ref sig .tc := ⟨.hbm, 138, rfl⟩
abbrev main_call2_v19 : Ref sig .tc := ⟨.hbm, 139, rfl⟩
abbrev main_call2_v20 : Ref sig .tc := ⟨.hbm, 140, rfl⟩
abbrev main_call2_v21 : Ref sig .tc := ⟨.hbm, 141, rfl⟩
abbrev main_call2_c_5 : Ref sig .tc := ⟨.hbm, 142, rfl⟩
abbrev main_call2_v22 : Ref sig .tc := ⟨.hbm, 143, rfl⟩
abbrev main_call2_v23 : Ref sig .tc := ⟨.hbm, 144, rfl⟩
abbrev main_call2_c_6 : Ref sig .tc := ⟨.hbm, 145, rfl⟩
abbrev main_call2_v24 : Ref sig .tc := ⟨.hbm, 146, rfl⟩
abbrev main_call2_v25 : Ref sig .tc := ⟨.hbm, 147, rfl⟩
abbrev main_call2_v26 : Ref sig .tc := ⟨.hbm, 148, rfl⟩
abbrev main_call2_v27 : Ref sig .tc := ⟨.hbm, 149, rfl⟩
abbrev main_call2_v28 : Ref sig .tc := ⟨.hbm, 150, rfl⟩
abbrev main_v18_0 : Ref sig .tc := ⟨.hbm, 151, rfl⟩
abbrev main_call2_c_7 : Ref sig .tc := ⟨.hbm, 152, rfl⟩
abbrev main_call2_v30 : Ref sig .tc := ⟨.hbm, 153, rfl⟩
abbrev main_call2_v31 : Ref sig .tc := ⟨.hbm, 154, rfl⟩
abbrev main_v18_1 : Ref sig .tc := ⟨.hbm, 155, rfl⟩
abbrev main_call3_v0 : Ref sig .tc := ⟨.hbm, 156, rfl⟩
abbrev main_call3_c : Ref sig .tc := ⟨.hbm, 157, rfl⟩
abbrev main_call3_v1 : Ref sig .tc := ⟨.hbm, 158, rfl⟩
abbrev main_call3_v2 : Ref sig .tc := ⟨.hbm, 159, rfl⟩
abbrev main_call3_c_0 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_v6 : Ref sig .tc := ⟨.hbm, 164, rfl⟩
abbrev main_call3_v7 : Ref sig .tc := ⟨.hbm, 165, rfl⟩
abbrev main_call3_c_1 : Ref sig .tc := ⟨.hbm, 166, rfl⟩
abbrev main_call3_v8 : Ref sig .tc := ⟨.hbm, 167, rfl⟩
abbrev main_call3_v9 : Ref sig .tc := ⟨.hbm, 168, rfl⟩
abbrev main_call3_c_2 : Ref sig .tc := ⟨.hbm, 169, rfl⟩
abbrev main_call3_v10 : Ref sig .tc := ⟨.hbm, 170, rfl⟩
abbrev main_call3_v11 : Ref sig .tc := ⟨.hbm, 171, rfl⟩
abbrev main_call3_v12 : Ref sig .tc := ⟨.hbm, 172, rfl⟩
abbrev main_call3_v13 : Ref sig .tc := ⟨.hbm, 173, rfl⟩
abbrev main_call3_v14 : Ref sig .tc := ⟨.hbm, 174, rfl⟩
abbrev main_call3_c_3 : Ref sig .tc := ⟨.hbm, 175, rfl⟩
abbrev main_call3_v15 : Ref sig .tc := ⟨.hbm, 176, rfl⟩
abbrev main_call3_v16 : Ref sig .tc := ⟨.hbm, 177, rfl⟩
abbrev main_call3_c_4 : Ref sig .tc := ⟨.hbm, 178, rfl⟩
abbrev main_call3_v17 : Ref sig .tc := ⟨.hbm, 179, rfl⟩
abbrev main_call3_v18 : Ref sig .tc := ⟨.hbm, 180, rfl⟩
abbrev main_call3_v19 : Ref sig .tc := ⟨.hbm, 181, rfl⟩
abbrev main_call3_v20 : Ref sig .tc := ⟨.hbm, 182, rfl⟩
abbrev main_call3_v21 : Ref sig .tc := ⟨.hbm, 183, rfl⟩
abbrev main_call3_c_5 : Ref sig .tc := ⟨.hbm, 184, rfl⟩
abbrev main_call3_v22 : Ref sig .tc := ⟨.hbm, 185, rfl⟩
abbrev main_call3_v23 : Ref sig .tc := ⟨.hbm, 186, rfl⟩
abbrev main_call3_c_6 : Ref sig .tc := ⟨.hbm, 187, rfl⟩
abbrev main_call3_v24 : Ref sig .tc := ⟨.hbm, 188, rfl⟩
abbrev main_call3_v25 : Ref sig .tc := ⟨.hbm, 189, rfl⟩
abbrev main_call3_v26 : Ref sig .tc := ⟨.hbm, 190, rfl⟩
abbrev main_call3_v27 : Ref sig .tc := ⟨.hbm, 191, rfl⟩
abbrev main_call3_v28 : Ref sig .tc := ⟨.hbm, 192, rfl⟩
abbrev main_v19_0 : Ref sig .tc := ⟨.hbm, 193, rfl⟩
abbrev main_call3_c_7 : Ref sig .tc := ⟨.hbm, 194, rfl⟩
abbrev main_call3_v30 : Ref sig .tc := ⟨.hbm, 195, rfl⟩
abbrev main_call3_v31 : Ref sig .tc := ⟨.hbm, 196, rfl⟩
abbrev main_v19_1 : Ref sig .tc := ⟨.hbm, 197, rfl⟩
abbrev main_call4_v0 : Ref sig .tc := ⟨.hbm, 198, rfl⟩
abbrev main_call4_c : Ref sig .tc := ⟨.hbm, 199, rfl⟩
abbrev main_call4_v1 : Ref sig .tc := ⟨.hbm, 200, rfl⟩
abbrev main_call4_v2 : Ref sig .tc := ⟨.hbm, 201, rfl⟩
abbrev main_call4_c_0 : Ref sig .tc := ⟨.hbm, 202, rfl⟩
abbrev main_call4_v3 : Ref sig .tc := ⟨.hbm, 203, rfl⟩
abbrev main_call4_v4 : Ref sig .tc := ⟨.hbm, 204, rfl⟩
abbrev main_call4_v5 : Ref sig .tc := ⟨.hbm, 205, rfl⟩
abbrev main_call4_v6 : Ref sig .tc := ⟨.hbm, 206, rfl⟩
abbrev main_call4_v7 : Ref sig .tc := ⟨.hbm, 207, rfl⟩
abbrev main_call4_c_1 : Ref sig .tc := ⟨.hbm, 208, rfl⟩
abbrev main_call4_v8 : Ref sig .tc := ⟨.hbm, 209, rfl⟩
abbrev main_call4_v9 : Ref sig .tc := ⟨.hbm, 210, rfl⟩
abbrev main_call4_c_2 : Ref sig .tc := ⟨.hbm, 211, rfl⟩
abbrev main_call4_v10 : Ref sig .tc := ⟨.hbm, 212, rfl⟩
abbrev main_call4_v11 : Ref sig .tc := ⟨.hbm, 213, rfl⟩
abbrev main_call4_v12 : Ref sig .tc := ⟨.hbm, 214, rfl⟩
abbrev main_call4_v13 : Ref sig .tc := ⟨.hbm, 215, rfl⟩
abbrev main_call4_v14 : Ref sig .tc := ⟨.hbm, 216, rfl⟩
abbrev main_call4_c_3 : Ref sig .tc := ⟨.hbm, 217, rfl⟩
abbrev main_call4_v15 : Ref sig .tc := ⟨.hbm, 218, rfl⟩
abbrev main_call4_v16 : Ref sig .tc := ⟨.hbm, 219, rfl⟩
abbrev main_call4_c_4 : Ref sig .tc := ⟨.hbm, 220, rfl⟩
abbrev main_call4_v17 : Ref sig .tc := ⟨.hbm, 221, rfl⟩
abbrev main_call4_v18 : Ref sig .tc := ⟨.hbm, 222, rfl⟩
abbrev main_call4_v19 : Ref sig .tc := ⟨.hbm, 223, rfl⟩
abbrev main_call4_v20 : Ref sig .tc := ⟨.hbm, 224, rfl⟩
abbrev main_call4_v21 : Ref sig .tc := ⟨.hbm, 225, rfl⟩
abbrev main_call4_c_5 : Ref sig .tc := ⟨.hbm, 226, rfl⟩
abbrev main_call4_v22 : Ref sig .tc := ⟨.hbm, 227, rfl⟩
abbrev main_call4_v23 : Ref sig .tc := ⟨.hbm, 228, rfl⟩
abbrev main_call4_c_6 : Ref sig .tc := ⟨.hbm, 229, rfl⟩
abbrev main_call4_v24 : Ref sig .tc := ⟨.hbm, 230, rfl⟩
abbrev main_call4_v25 : Ref sig .tc := ⟨.hbm, 231, rfl⟩
abbrev main_call4_v26 : Ref sig .tc := ⟨.hbm, 232, rfl⟩
abbrev main_call4_v27 : Ref sig .tc := ⟨.hbm, 233, rfl⟩
abbrev main_call4_v28 : Ref sig .tc := ⟨.hbm, 234, rfl⟩
abbrev main_v20_0 : Ref sig .tc := ⟨.hbm, 235, rfl⟩
abbrev main_call4_c_7 : Ref sig .tc := ⟨.hbm, 236, rfl⟩
abbrev main_call4_v30 : Ref sig .tc := ⟨.hbm, 237, rfl⟩
abbrev main_call4_v31 : Ref sig .tc := ⟨.hbm, 238, rfl⟩
abbrev main_v20_1 : Ref sig .tc := ⟨.hbm, 239, rfl⟩
abbrev main_v21 : Ref sig .tc := ⟨.hbm, 240, rfl⟩
abbrev main_v22 : Ref sig .tc := ⟨.hbm, 241, rfl⟩
abbrev main_v23 : Ref sig .tc := ⟨.hbm, 242, rfl⟩
abbrev main_v24 : Ref sig .tc := ⟨.hbm, 243, rfl⟩
abbrev main_v25 : Ref sig .tc := ⟨.hbm, 244, rfl⟩
abbrev main_v26 : Ref sig .tc := ⟨.hbm, 245, rfl⟩
abbrev main_v27 : Ref sig .tc := ⟨.hbm, 246, rfl⟩
abbrev main_v28 : Ref sig .tc := ⟨.hbm, 247, rfl⟩
abbrev main_v29 : Ref sig .tc := ⟨.hbm, 248, rfl⟩
abbrev main_v30 : Ref sig .tc := ⟨.hbm, 249, rfl⟩
abbrev main_v31 : Ref sig .tc := ⟨.hbm, 250, rfl⟩
abbrev main_v32 : Ref sig .tc := ⟨.hbm, 251, rfl⟩
abbrev main_v33 : Ref sig .tc := ⟨.hbm, 252, rfl⟩
abbrev main_cst : Ref sig .tc := ⟨.hbm, 253, rfl⟩
abbrev main_v34 : Ref sig .tc := ⟨.hbm, 254, rfl⟩
abbrev main_v35 : Ref sig .tc := ⟨.hbm, 255, rfl⟩
abbrev main_v36 : Ref sig .tc := ⟨.hbm, 256, rfl⟩
abbrev main_v37 : Ref sig .tc := ⟨.hbm, 257, rfl⟩
abbrev main_v38 : Ref sig .tc := ⟨.hbm, 258, rfl⟩
abbrev main_v39 : Ref sig .tc := ⟨.hbm, 259, rfl⟩
abbrev main_cst_2 : Ref sig .tc := ⟨.hbm, 260, rfl⟩
abbrev main_v40 : Ref sig .tc := ⟨.hbm, 261, rfl⟩
abbrev main_v41 : Ref sig .tc := ⟨.hbm, 262, rfl⟩
abbrev main_v42 : Ref sig .tc := ⟨.hbm, 263, rfl⟩
abbrev main_v43 : Ref sig .tc := ⟨.hbm, 264, rfl⟩
abbrev main_v44 : Ref sig .tc := ⟨.hbm, 265, rfl⟩
abbrev main_cst_3 : Ref sig .tc := ⟨.hbm, 266, rfl⟩
abbrev main_v45 : Ref sig .tc := ⟨.hbm, 267, rfl⟩
abbrev main_v46 : Ref sig .tc := ⟨.hbm, 268, rfl⟩
abbrev main_v47 : Ref sig .tc := ⟨.hbm, 269, rfl⟩
abbrev main_v48 : Ref sig .tc := ⟨.hbm, 270, rfl⟩
abbrev main_v49 : Ref sig .tc := ⟨.hbm, 271, rfl⟩
abbrev main_v50 : Ref sig .tc := ⟨.hbm, 272, rfl⟩
abbrev main_v51 : Ref sig .tc := ⟨.hbm, 273, rfl⟩
abbrev main_v52 : Ref sig .tc := ⟨.hbm, 274, rfl⟩
abbrev main_v53 : Ref sig .tc := ⟨.hbm, 275, rfl⟩
abbrev main_c_4 : Ref sig .tc := ⟨.hbm, 276, rfl⟩
abbrev main_v54 : Ref sig .tc := ⟨.hbm, 277, rfl⟩
abbrev main_c_5 : Ref sig .tc := ⟨.hbm, 278, rfl⟩
abbrev main_v55 : Ref sig .tc := ⟨.hbm, 279, rfl⟩
abbrev main_v56 : Ref sig .tc := ⟨.hbm, 280, rfl⟩
abbrev main_v57 : Ref sig .tc := ⟨.hbm, 281, rfl⟩
abbrev main_v58 : Ref sig .tc := ⟨.hbm, 282, rfl⟩
abbrev main_v59 : Ref sig .tc := ⟨.hbm, 283, rfl⟩
abbrev main_v60 : Ref sig .tc := ⟨.hbm, 284, rfl⟩
abbrev main_v61 : Ref sig .tc := ⟨.hbm, 285, rfl⟩
abbrev main_v62 : Ref sig .tc := ⟨.hbm, 286, rfl⟩
abbrev main_v63 : Ref sig .tc := ⟨.hbm, 287, rfl⟩
abbrev main_v64 : Ref sig .tc := ⟨.hbm, 288, rfl⟩
abbrev main_v65 : Ref sig .tc := ⟨.hbm, 289, rfl⟩
abbrev main_v66 : Ref sig .tc := ⟨.hbm, 290, rfl⟩
abbrev main_c_6 : Ref sig .tc := ⟨.hbm, 291, rfl⟩
abbrev main_v67 : Ref sig .tc := ⟨.hbm, 292, rfl⟩
abbrev main_v68 : Ref sig .tc := ⟨.hbm, 293, rfl⟩
abbrev main_v69 : Ref sig .tc := ⟨.hbm, 294, rfl⟩
abbrev main_v70 : Ref sig .tc := ⟨.hbm, 295, rfl⟩
abbrev main_v71 : Ref sig .tc := ⟨.hbm, 296, rfl⟩
abbrev main_call5_v0 : Ref sig .tc := ⟨.hbm, 297, rfl⟩
abbrev main_call5_c : Ref sig .tc := ⟨.hbm, 298, rfl⟩
abbrev main_call5_v1 : Ref sig .tc := ⟨.hbm, 299, rfl⟩
abbrev main_call5_v2 : Ref sig .tc := ⟨.hbm, 300, rfl⟩
abbrev main_call5_c_0 : Ref sig .tc := ⟨.hbm, 301, rfl⟩
abbrev main_call5_v3 : Ref sig .tc := ⟨.hbm, 302, rfl⟩
abbrev main_call5_v4 : Ref sig .tc := ⟨.hbm, 303, rfl⟩
abbrev main_call5_v5 : Ref sig .tc := ⟨.hbm, 304, rfl⟩
abbrev main_call5_v6 : Ref sig .tc := ⟨.hbm, 305, rfl⟩
abbrev main_call5_v7 : Ref sig .tc := ⟨.hbm, 306, rfl⟩
abbrev main_call5_c_1 : Ref sig .tc := ⟨.hbm, 307, rfl⟩
abbrev main_call5_v8 : Ref sig .tc := ⟨.hbm, 308, rfl⟩
abbrev main_call5_v9 : Ref sig .tc := ⟨.hbm, 309, rfl⟩
abbrev main_call5_c_2 : Ref sig .tc := ⟨.hbm, 310, rfl⟩
abbrev main_call5_v10 : Ref sig .tc := ⟨.hbm, 311, rfl⟩
abbrev main_call5_v11 : Ref sig .tc := ⟨.hbm, 312, rfl⟩
abbrev main_call5_v12 : Ref sig .tc := ⟨.hbm, 313, rfl⟩
abbrev main_call5_v13 : Ref sig .tc := ⟨.hbm, 314, rfl⟩
abbrev main_call5_v14 : Ref sig .tc := ⟨.hbm, 315, rfl⟩
abbrev main_call5_c_3 : Ref sig .tc := ⟨.hbm, 316, rfl⟩
abbrev main_call5_v15 : Ref sig .tc := ⟨.hbm, 317, rfl⟩
abbrev main_call5_v16 : Ref sig .tc := ⟨.hbm, 318, rfl⟩
abbrev main_call5_c_4 : Ref sig .tc := ⟨.hbm, 319, rfl⟩
abbrev main_call5_v17 : Ref sig .tc := ⟨.hbm, 320, rfl⟩
abbrev main_call5_v18 : Ref sig .tc := ⟨.hbm, 321, rfl⟩
abbrev main_call5_v19 : Ref sig .tc := ⟨.hbm, 322, rfl⟩
abbrev main_call5_v20 : Ref sig .tc := ⟨.hbm, 323, rfl⟩
abbrev main_call5_v21 : Ref sig .tc := ⟨.hbm, 324, rfl⟩
abbrev main_call5_c_5 : Ref sig .tc := ⟨.hbm, 325, rfl⟩
abbrev main_call5_v22 : Ref sig .tc := ⟨.hbm, 326, rfl⟩
abbrev main_call5_v23 : Ref sig .tc := ⟨.hbm, 327, rfl⟩
abbrev main_call5_c_6 : Ref sig .tc := ⟨.hbm, 328, rfl⟩
abbrev main_call5_v24 : Ref sig .tc := ⟨.hbm, 329, rfl⟩
abbrev main_call5_v25 : Ref sig .tc := ⟨.hbm, 330, rfl⟩
abbrev main_call5_v26 : Ref sig .tc := ⟨.hbm, 331, rfl⟩
abbrev main_call5_v27 : Ref sig .tc := ⟨.hbm, 332, rfl⟩
abbrev main_call5_v28 : Ref sig .tc := ⟨.hbm, 333, rfl⟩
abbrev main_v72_0 : Ref sig .tc := ⟨.hbm, 334, rfl⟩
abbrev main_call5_c_7 : Ref sig .tc := ⟨.hbm, 335, rfl⟩
abbrev main_call5_v30 : Ref sig .tc := ⟨.hbm, 336, rfl⟩
abbrev main_call5_v31 : Ref sig .tc := ⟨.hbm, 337, rfl⟩
abbrev main_v72_1 : Ref sig .tc := ⟨.hbm, 338, rfl⟩
abbrev main_call6_v0 : Ref sig .tc := ⟨.hbm, 339, rfl⟩
abbrev main_call6_c : Ref sig .tc := ⟨.hbm, 340, rfl⟩
abbrev main_call6_v1 : Ref sig .tc := ⟨.hbm, 341, rfl⟩
abbrev main_call6_v2 : Ref sig .tc := ⟨.hbm, 342, rfl⟩
abbrev main_call6_c_0 : Ref sig .tc := ⟨.hbm, 343, rfl⟩
abbrev main_call6_v3 : Ref sig .tc := ⟨.hbm, 344, rfl⟩
abbrev main_call6_v4 : Ref sig .tc := ⟨.hbm, 345, rfl⟩
abbrev main_call6_v5 : Ref sig .tc := ⟨.hbm, 346, rfl⟩
abbrev main_call6_v6 : Ref sig .tc := ⟨.hbm, 347, rfl⟩
abbrev main_call6_v7 : Ref sig .tc := ⟨.hbm, 348, rfl⟩
abbrev main_call6_c_1 : Ref sig .tc := ⟨.hbm, 349, rfl⟩
abbrev main_call6_v8 : Ref sig .tc := ⟨.hbm, 350, rfl⟩
abbrev main_call6_v9 : Ref sig .tc := ⟨.hbm, 351, rfl⟩
abbrev main_call6_c_2 : Ref sig .tc := ⟨.hbm, 352, rfl⟩
abbrev main_call6_v10 : Ref sig .tc := ⟨.hbm, 353, rfl⟩
abbrev main_call6_v11 : Ref sig .tc := ⟨.hbm, 354, rfl⟩
abbrev main_call6_v12 : Ref sig .tc := ⟨.hbm, 355, rfl⟩
abbrev main_call6_v13 : Ref sig .tc := ⟨.hbm, 356, rfl⟩
abbrev main_call6_v14 : Ref sig .tc := ⟨.hbm, 357, rfl⟩
abbrev main_call6_c_3 : Ref sig .tc := ⟨.hbm, 358, rfl⟩
abbrev main_call6_v15 : Ref sig .tc := ⟨.hbm, 359, rfl⟩
abbrev main_call6_v16 : Ref sig .tc := ⟨.hbm, 360, rfl⟩
abbrev main_call6_c_4 : Ref sig .tc := ⟨.hbm, 361, rfl⟩
abbrev main_call6_v17 : Ref sig .tc := ⟨.hbm, 362, rfl⟩
abbrev main_call6_v18 : Ref sig .tc := ⟨.hbm, 363, rfl⟩
abbrev main_call6_v19 : Ref sig .tc := ⟨.hbm, 364, rfl⟩
abbrev main_call6_v20 : Ref sig .tc := ⟨.hbm, 365, rfl⟩
abbrev main_call6_v21 : Ref sig .tc := ⟨.hbm, 366, rfl⟩
abbrev main_call6_c_5 : Ref sig .tc := ⟨.hbm, 367, rfl⟩
abbrev main_call6_v22 : Ref sig .tc := ⟨.hbm, 368, rfl⟩
abbrev main_call6_v23 : Ref sig .tc := ⟨.hbm, 369, rfl⟩
abbrev main_call6_c_6 : Ref sig .tc := ⟨.hbm, 370, rfl⟩
abbrev main_call6_v24 : Ref sig .tc := ⟨.hbm, 371, rfl⟩
abbrev main_call6_v25 : Ref sig .tc := ⟨.hbm, 372, rfl⟩
abbrev main_call6_v26 : Ref sig .tc := ⟨.hbm, 373, rfl⟩
abbrev main_call6_v27 : Ref sig .tc := ⟨.hbm, 374, rfl⟩
abbrev main_call6_v28 : Ref sig .tc := ⟨.hbm, 375, rfl⟩
abbrev main_v73_0 : Ref sig .tc := ⟨.hbm, 376, rfl⟩
abbrev main_call6_c_7 : Ref sig .tc := ⟨.hbm, 377, rfl⟩
abbrev main_call6_v30 : Ref sig .tc := ⟨.hbm, 378, rfl⟩
abbrev main_call6_v31 : Ref sig .tc := ⟨.hbm, 379, rfl⟩
abbrev main_v73_1 : Ref sig .tc := ⟨.hbm, 380, rfl⟩
abbrev main_call7_v0 : Ref sig .tc := ⟨.hbm, 381, rfl⟩
abbrev main_call7_c : Ref sig .tc := ⟨.hbm, 382, rfl⟩
abbrev main_call7_v1 : Ref sig .tc := ⟨.hbm, 383, rfl⟩
abbrev main_call7_v2 : Ref sig .tc := ⟨.hbm, 384, rfl⟩
abbrev main_call7_c_0 : Ref sig .tc := ⟨.hbm, 385, rfl⟩
abbrev main_call7_v3 : Ref sig .tc := ⟨.hbm, 386, rfl⟩
abbrev main_call7_v4 : Ref sig .tc := ⟨.hbm, 387, rfl⟩
abbrev main_call7_v5 : Ref sig .tc := ⟨.hbm, 388, rfl⟩
abbrev main_call7_v6 : Ref sig .tc := ⟨.hbm, 389, rfl⟩
abbrev main_call7_v7 : Ref sig .tc := ⟨.hbm, 390, rfl⟩
abbrev main_call7_c_1 : Ref sig .tc := ⟨.hbm, 391, rfl⟩
abbrev main_call7_v8 : Ref sig .tc := ⟨.hbm, 392, rfl⟩
abbrev main_call7_v9 : Ref sig .tc := ⟨.hbm, 393, rfl⟩
abbrev main_call7_c_2 : Ref sig .tc := ⟨.hbm, 394, rfl⟩
abbrev main_call7_v10 : Ref sig .tc := ⟨.hbm, 395, rfl⟩
abbrev main_call7_v11 : Ref sig .tc := ⟨.hbm, 396, rfl⟩
abbrev main_call7_v12 : Ref sig .tc := ⟨.hbm, 397, rfl⟩
abbrev main_call7_v13 : Ref sig .tc := ⟨.hbm, 398, rfl⟩
abbrev main_call7_v14 : Ref sig .tc := ⟨.hbm, 399, rfl⟩
abbrev main_call7_c_3 : Ref sig .tc := ⟨.hbm, 400, rfl⟩
abbrev main_call7_v15 : Ref sig .tc := ⟨.hbm, 401, rfl⟩
abbrev main_call7_v16 : Ref sig .tc := ⟨.hbm, 402, rfl⟩
abbrev main_call7_c_4 : Ref sig .tc := ⟨.hbm, 403, rfl⟩
abbrev main_call7_v17 : Ref sig .tc := ⟨.hbm, 404, rfl⟩
abbrev main_call7_v18 : Ref sig .tc := ⟨.hbm, 405, rfl⟩
abbrev main_call7_v19 : Ref sig .tc := ⟨.hbm, 406, rfl⟩
abbrev main_call7_v20 : Ref sig .tc := ⟨.hbm, 407, rfl⟩
abbrev main_call7_v21 : Ref sig .tc := ⟨.hbm, 408, rfl⟩
abbrev main_call7_c_5 : Ref sig .tc := ⟨.hbm, 409, rfl⟩
abbrev main_call7_v22 : Ref sig .tc := ⟨.hbm, 410, rfl⟩
abbrev main_call7_v23 : Ref sig .tc := ⟨.hbm, 411, rfl⟩
abbrev main_call7_c_6 : Ref sig .tc := ⟨.hbm, 412, rfl⟩
abbrev main_call7_v24 : Ref sig .tc := ⟨.hbm, 413, rfl⟩
abbrev main_call7_v25 : Ref sig .tc := ⟨.hbm, 414, rfl⟩
abbrev main_call7_v26 : Ref sig .tc := ⟨.hbm, 415, rfl⟩
abbrev main_call7_v27 : Ref sig .tc := ⟨.hbm, 416, rfl⟩
abbrev main_call7_v28 : Ref sig .tc := ⟨.hbm, 417, rfl⟩
abbrev main_v74_0 : Ref sig .tc := ⟨.hbm, 418, rfl⟩
abbrev main_call7_c_7 : Ref sig .tc := ⟨.hbm, 419, rfl⟩
abbrev main_call7_v30 : Ref sig .tc := ⟨.hbm, 420, rfl⟩
abbrev main_call7_v31 : Ref sig .tc := ⟨.hbm, 421, rfl⟩
abbrev main_v74_1 : Ref sig .tc := ⟨.hbm, 422, rfl⟩
abbrev main_call8_v0 : Ref sig .tc := ⟨.hbm, 423, rfl⟩
abbrev main_call8_c : Ref sig .tc := ⟨.hbm, 424, rfl⟩
abbrev main_call8_v1 : Ref sig .tc := ⟨.hbm, 425, rfl⟩
abbrev main_call8_v2 : Ref sig .tc := ⟨.hbm, 426, rfl⟩
abbrev main_call8_c_0 : Ref sig .tc := ⟨.hbm, 427, rfl⟩
abbrev main_call8_v3 : Ref sig .tc := ⟨.hbm, 428, rfl⟩
abbrev main_call8_v4 : Ref sig .tc := ⟨.hbm, 429, rfl⟩
abbrev main_call8_v5 : Ref sig .tc := ⟨.hbm, 430, rfl⟩
abbrev main_call8_v6 : Ref sig .tc := ⟨.hbm, 431, rfl⟩
abbrev main_call8_v7 : Ref sig .tc := ⟨.hbm, 432, rfl⟩
abbrev main_call8_c_1 : Ref sig .tc := ⟨.hbm, 433, rfl⟩
abbrev main_call8_v8 : Ref sig .tc := ⟨.hbm, 434, rfl⟩
abbrev main_call8_v9 : Ref sig .tc := ⟨.hbm, 435, rfl⟩
abbrev main_call8_c_2 : Ref sig .tc := ⟨.hbm, 436, rfl⟩
abbrev main_call8_v10 : Ref sig .tc := ⟨.hbm, 437, rfl⟩
abbrev main_call8_v11 : Ref sig .tc := ⟨.hbm, 438, rfl⟩
abbrev main_call8_v12 : Ref sig .tc := ⟨.hbm, 439, rfl⟩
abbrev main_call8_v13 : Ref sig .tc := ⟨.hbm, 440, rfl⟩
abbrev main_call8_v14 : Ref sig .tc := ⟨.hbm, 441, rfl⟩
abbrev main_call8_c_3 : Ref sig .tc := ⟨.hbm, 442, rfl⟩
abbrev main_call8_v15 : Ref sig .tc := ⟨.hbm, 443, rfl⟩
abbrev main_call8_v16 : Ref sig .tc := ⟨.hbm, 444, rfl⟩
abbrev main_call8_c_4 : Ref sig .tc := ⟨.hbm, 445, rfl⟩
abbrev main_call8_v17 : Ref sig .tc := ⟨.hbm, 446, rfl⟩
abbrev main_call8_v18 : Ref sig .tc := ⟨.hbm, 447, rfl⟩
abbrev main_call8_v19 : Ref sig .tc := ⟨.hbm, 448, rfl⟩
abbrev main_call8_v20 : Ref sig .tc := ⟨.hbm, 449, rfl⟩
abbrev main_call8_v21 : Ref sig .tc := ⟨.hbm, 450, rfl⟩
abbrev main_call8_c_5 : Ref sig .tc := ⟨.hbm, 451, rfl⟩
abbrev main_call8_v22 : Ref sig .tc := ⟨.hbm, 452, rfl⟩
abbrev main_call8_v23 : Ref sig .tc := ⟨.hbm, 453, rfl⟩
abbrev main_call8_c_6 : Ref sig .tc := ⟨.hbm, 454, rfl⟩
abbrev main_call8_v24 : Ref sig .tc := ⟨.hbm, 455, rfl⟩
abbrev main_call8_v25 : Ref sig .tc := ⟨.hbm, 456, rfl⟩
abbrev main_call8_v26 : Ref sig .tc := ⟨.hbm, 457, rfl⟩
abbrev main_call8_v27 : Ref sig .tc := ⟨.hbm, 458, rfl⟩
abbrev main_call8_v28 : Ref sig .tc := ⟨.hbm, 459, rfl⟩
abbrev main_v75_0 : Ref sig .tc := ⟨.hbm, 460, rfl⟩
abbrev main_call8_c_7 : Ref sig .tc := ⟨.hbm, 461, rfl⟩
abbrev main_call8_v30 : Ref sig .tc := ⟨.hbm, 462, rfl⟩
abbrev main_call8_v31 : Ref sig .tc := ⟨.hbm, 463, rfl⟩
abbrev main_v75_1 : Ref sig .tc := ⟨.hbm, 464, rfl⟩
abbrev main_call9_v0 : Ref sig .tc := ⟨.hbm, 465, rfl⟩
abbrev main_call9_c : Ref sig .tc := ⟨.hbm, 466, rfl⟩
abbrev main_call9_v1 : Ref sig .tc := ⟨.hbm, 467, rfl⟩
abbrev main_call9_v2 : Ref sig .tc := ⟨.hbm, 468, rfl⟩
abbrev main_call9_c_0 : Ref sig .tc := ⟨.hbm, 469, rfl⟩
abbrev main_call9_v3 : Ref sig .tc := ⟨.hbm, 470, rfl⟩
abbrev main_call9_v4 : Ref sig .tc := ⟨.hbm, 471, rfl⟩
abbrev main_call9_v5 : Ref sig .tc := ⟨.hbm, 472, rfl⟩
abbrev main_call9_v6 : Ref sig .tc := ⟨.hbm, 473, rfl⟩
abbrev main_call9_v7 : Ref sig .tc := ⟨.hbm, 474, rfl⟩
abbrev main_call9_c_1 : Ref sig .tc := ⟨.hbm, 475, rfl⟩
abbrev main_call9_v8 : Ref sig .tc := ⟨.hbm, 476, rfl⟩
abbrev main_call9_v9 : Ref sig .tc := ⟨.hbm, 477, rfl⟩
abbrev main_call9_c_2 : Ref sig .tc := ⟨.hbm, 478, rfl⟩
abbrev main_call9_v10 : Ref sig .tc := ⟨.hbm, 479, rfl⟩
abbrev main_call9_v11 : Ref sig .tc := ⟨.hbm, 480, rfl⟩
abbrev main_call9_v12 : Ref sig .tc := ⟨.hbm, 481, rfl⟩
abbrev main_call9_v13 : Ref sig .tc := ⟨.hbm, 482, rfl⟩
abbrev main_call9_v14 : Ref sig .tc := ⟨.hbm, 483, rfl⟩
abbrev main_call9_c_3 : Ref sig .tc := ⟨.hbm, 484, rfl⟩
abbrev main_call9_v15 : Ref sig .tc := ⟨.hbm, 485, rfl⟩
abbrev main_call9_v16 : Ref sig .tc := ⟨.hbm, 486, rfl⟩
abbrev main_call9_c_4 : Ref sig .tc := ⟨.hbm, 487, rfl⟩
abbrev main_call9_v17 : Ref sig .tc := ⟨.hbm, 488, rfl⟩
abbrev main_call9_v18 : Ref sig .tc := ⟨.hbm, 489, rfl⟩
abbrev main_call9_v19 : Ref sig .tc := ⟨.hbm, 490, rfl⟩
abbrev main_call9_v20 : Ref sig .tc := ⟨.hbm, 491, rfl⟩
abbrev main_call9_v21 : Ref sig .tc := ⟨.hbm, 492, rfl⟩
abbrev main_call9_c_5 : Ref sig .tc := ⟨.hbm, 493, rfl⟩
abbrev main_call9_v22 : Ref sig .tc := ⟨.hbm, 494, rfl⟩
abbrev main_call9_v23 : Ref sig .tc := ⟨.hbm, 495, rfl⟩
abbrev main_call9_c_6 : Ref sig .tc := ⟨.hbm, 496, rfl⟩
abbrev main_call9_v24 : Ref sig .tc := ⟨.hbm, 497, rfl⟩
abbrev main_call9_v25 : Ref sig .tc := ⟨.hbm, 498, rfl⟩
abbrev main_call9_v26 : Ref sig .tc := ⟨.hbm, 499, rfl⟩
abbrev main_call9_v27 : Ref sig .tc := ⟨.hbm, 500, rfl⟩
abbrev main_call9_v28 : Ref sig .tc := ⟨.hbm, 501, rfl⟩
abbrev main_v76_0 : Ref sig .tc := ⟨.hbm, 502, rfl⟩
abbrev main_call9_c_7 : Ref sig .tc := ⟨.hbm, 503, rfl⟩
abbrev main_call9_v30 : Ref sig .tc := ⟨.hbm, 504, rfl⟩
abbrev main_call9_v31 : Ref sig .tc := ⟨.hbm, 505, rfl⟩
abbrev main_v76_1 : Ref sig .tc := ⟨.hbm, 506, rfl⟩
abbrev main_v77 : Ref sig .tc := ⟨.hbm, 507, rfl⟩
abbrev main_c_7 : Ref sig .tc := ⟨.hbm, 508, rfl⟩
abbrev main_v78 : Ref sig .tc := ⟨.hbm, 509, rfl⟩
abbrev main_v79 : Ref sig .tc := ⟨.hbm, 510, rfl⟩
abbrev main_c_8 : Ref sig .tc := ⟨.hbm, 511, rfl⟩
abbrev main_v80 : Ref sig .tc := ⟨.hbm, 512, rfl⟩
abbrev main_v81 : Ref sig .tc := ⟨.hbm, 513, rfl⟩
abbrev main_v82 : Ref sig .tc := ⟨.hbm, 514, rfl⟩
abbrev main_cst_9 : Ref sig .tc := ⟨.hbm, 515, rfl⟩
abbrev main_v83 : Ref sig .tc := ⟨.hbm, 516, rfl⟩
abbrev main_v84 : Ref sig .tc := ⟨.hbm, 517, rfl⟩
abbrev main_cst_10 : Ref sig .tc := ⟨.hbm, 518, rfl⟩
abbrev main_v85 : Ref sig .tc := ⟨.hbm, 519, rfl⟩
abbrev main_v86 : Ref sig .tc := ⟨.hbm, 520, rfl⟩
abbrev main_cst_11 : Ref sig .tc := ⟨.hbm, 521, rfl⟩
abbrev main_v87 : Ref sig .tc := ⟨.hbm, 522, rfl⟩
abbrev main_v88 : Ref sig .tc := ⟨.hbm, 523, rfl⟩
abbrev main_cst_12 : Ref sig .tc := ⟨.hbm, 524, rfl⟩
abbrev main_v89 : Ref sig .tc := ⟨.hbm, 525, rfl⟩
abbrev main_v90 : Ref sig .tc := ⟨.hbm, 526, rfl⟩
abbrev main_v91 : Ref sig .tc := ⟨.hbm, 527, rfl⟩
abbrev main_v92 : Ref sig .tc := ⟨.hbm, 528, rfl⟩
abbrev main_v93 : Ref sig .tc := ⟨.hbm, 529, rfl⟩
abbrev main_v94 : Ref sig .tc := ⟨.hbm, 530, rfl⟩
abbrev main_v95 : Ref sig .tc := ⟨.hbm, 531, rfl⟩
abbrev main_cst_13 : Ref sig .tc := ⟨.hbm, 532, rfl⟩
abbrev main_v96 : Ref sig .tc := ⟨.hbm, 533, rfl⟩
abbrev main_v97 : Ref sig .tc := ⟨.hbm, 534, rfl⟩
abbrev main_v98 : Ref sig .tc := ⟨.hbm, 535, rfl⟩
abbrev main_v99 : Ref sig .tc := ⟨.hbm, 536, rfl⟩
abbrev main_v100 : Ref sig .tc := ⟨.hbm, 537, rfl⟩
abbrev main_c_14 : Ref sig .tc := ⟨.hbm, 538, rfl⟩
abbrev main_call10_v0 : Ref sig .tc := ⟨.hbm, 539, rfl⟩
abbrev main_call10_v1 : Ref sig .tc := ⟨.hbm, 540, rfl⟩
abbrev main_v101 : Ref sig .tc := ⟨.hbm, 541, rfl⟩
abbrev main_c_15 : Ref sig .tc := ⟨.hbm, 542, rfl⟩
abbrev main_v102 : Ref sig .tc := ⟨.hbm, 543, rfl⟩
abbrev main_v103 : Ref sig .tc := ⟨.hbm, 544, rfl⟩
abbrev main_call11_c : Ref sig .tc := ⟨.hbm, 545, rfl⟩
abbrev main_call11_v0 : Ref sig .tc := ⟨.hbm, 546, rfl⟩
abbrev main_call11_v1 : Ref sig .tc := ⟨.hbm, 547, rfl⟩
abbrev main_call11_c_0 : Ref sig .tc := ⟨.hbm, 548, rfl⟩
abbrev main_call11_v2 : Ref sig .tc := ⟨.hbm, 549, rfl⟩
abbrev main_call11_v3 : Ref sig .tc := ⟨.hbm, 550, rfl⟩
abbrev main_call11_v4 : Ref sig .tc := ⟨.hbm, 551, rfl⟩
abbrev main_call11_c_1 : Ref sig .tc := ⟨.hbm, 552, rfl⟩
abbrev main_call11_c_2 : Ref sig .tc := ⟨.hbm, 553, rfl⟩
abbrev main_call11_v5 : Ref sig .tc := ⟨.hbm, 554, rfl⟩
abbrev main_call11_v6 : Ref sig .tc := ⟨.hbm, 555, rfl⟩
abbrev main_call11_v7 : Ref sig .tc := ⟨.hbm, 556, rfl⟩
abbrev main_call11_v8 : Ref sig .tc := ⟨.hbm, 557, rfl⟩
abbrev main_call11_v9 : Ref sig .tc := ⟨.hbm, 558, rfl⟩
abbrev main_call11_v10 : Ref sig .tc := ⟨.hbm, 559, rfl⟩
abbrev main_call11_c_3 : Ref sig .tc := ⟨.hbm, 560, rfl⟩
abbrev main_call11_v11 : Ref sig .tc := ⟨.hbm, 561, rfl⟩
abbrev main_call11_v12 : Ref sig .tc := ⟨.hbm, 562, rfl⟩
abbrev main_call11_v13 : Ref sig .tc := ⟨.hbm, 563, rfl⟩
abbrev main_call11_cst : Ref sig .tc := ⟨.hbm, 564, rfl⟩
abbrev main_call11_v14 : Ref sig .tc := ⟨.hbm, 565, rfl⟩
abbrev main_v104 : Ref sig .tc := ⟨.hbm, 566, rfl⟩
abbrev main_v105 : Ref sig .tc := ⟨.hbm, 567, rfl⟩
abbrev main_v106 : Ref sig .tc := ⟨.hbm, 568, rfl⟩
abbrev main_v107 : Ref sig .tc := ⟨.hbm, 569, rfl⟩
abbrev main_c_16 : Ref sig .tc := ⟨.hbm, 570, rfl⟩
abbrev main_v108 : Ref sig .tc := ⟨.hbm, 571, rfl⟩
abbrev main_c_17 : Ref sig .tc := ⟨.hbm, 572, rfl⟩
abbrev main_v109 : Ref sig .tc := ⟨.hbm, 573, rfl⟩
abbrev main_v110 : Ref sig .tc := ⟨.hbm, 574, rfl⟩
abbrev main_v111 : Ref sig .tc := ⟨.hbm, 575, rfl⟩
abbrev main_v112 : Ref sig .tc := ⟨.hbm, 576, rfl⟩
abbrev main_v113 : Ref sig .tc := ⟨.hbm, 577, rfl⟩
abbrev main_v114 : Ref sig .tc := ⟨.hbm, 578, rfl⟩
abbrev main_v115 : Ref sig .tc := ⟨.hbm, 579, rfl⟩
abbrev main_v116 : Ref sig .tc := ⟨.hbm, 580, rfl⟩
abbrev main_v117 : Ref sig .tc := ⟨.hbm, 581, rfl⟩
abbrev main_v118 : Ref sig .tc := ⟨.hbm, 582, rfl⟩
abbrev main_v119 : Ref sig .tc := ⟨.hbm, 583, rfl⟩
abbrev main_v120 : Ref sig .tc := ⟨.hbm, 584, rfl⟩
abbrev main_c_18 : Ref sig .tc := ⟨.hbm, 585, rfl⟩
abbrev main_v121 : Ref sig .tc := ⟨.hbm, 586, rfl⟩
abbrev main_v122 : Ref sig .tc := ⟨.hbm, 587, rfl⟩
abbrev main_v123 : Ref sig .tc := ⟨.hbm, 588, rfl⟩
abbrev main_v124 : Ref sig .tc := ⟨.hbm, 589, rfl⟩
abbrev main_v125 : Ref sig .tc := ⟨.hbm, 590, rfl⟩
abbrev main_call12_v0 : Ref sig .tc := ⟨.hbm, 591, rfl⟩
abbrev main_call12_c : Ref sig .tc := ⟨.hbm, 592, rfl⟩
abbrev main_call12_v1 : Ref sig .tc := ⟨.hbm, 593, rfl⟩
abbrev main_call12_v2 : Ref sig .tc := ⟨.hbm, 594, rfl⟩
abbrev main_call12_c_0 : Ref sig .tc := ⟨.hbm, 595, rfl⟩
abbrev main_call12_v3 : Ref sig .tc := ⟨.hbm, 596, rfl⟩
abbrev main_call12_v4 : Ref sig .tc := ⟨.hbm, 597, rfl⟩
abbrev main_call12_v5 : Ref sig .tc := ⟨.hbm, 598, rfl⟩
abbrev main_call12_v6 : Ref sig .tc := ⟨.hbm, 599, rfl⟩
abbrev main_call12_v7 : Ref sig .tc := ⟨.hbm, 600, rfl⟩
abbrev main_call12_c_1 : Ref sig .tc := ⟨.hbm, 601, rfl⟩
abbrev main_call12_v8 : Ref sig .tc := ⟨.hbm, 602, rfl⟩
abbrev main_call12_v9 : Ref sig .tc := ⟨.hbm, 603, rfl⟩
abbrev main_call12_c_2 : Ref sig .tc := ⟨.hbm, 604, rfl⟩
abbrev main_call12_v10 : Ref sig .tc := ⟨.hbm, 605, rfl⟩
abbrev main_call12_v11 : Ref sig .tc := ⟨.hbm, 606, rfl⟩
abbrev main_call12_v12 : Ref sig .tc := ⟨.hbm, 607, rfl⟩
abbrev main_call12_v13 : Ref sig .tc := ⟨.hbm, 608, rfl⟩
abbrev main_call12_v14 : Ref sig .tc := ⟨.hbm, 609, rfl⟩
abbrev main_call12_c_3 : Ref sig .tc := ⟨.hbm, 610, rfl⟩
abbrev main_call12_v15 : Ref sig .tc := ⟨.hbm, 611, rfl⟩
abbrev main_call12_v16 : Ref sig .tc := ⟨.hbm, 612, rfl⟩
abbrev main_call12_c_4 : Ref sig .tc := ⟨.hbm, 613, rfl⟩
abbrev main_call12_v17 : Ref sig .tc := ⟨.hbm, 614, rfl⟩
abbrev main_call12_v18 : Ref sig .tc := ⟨.hbm, 615, rfl⟩
abbrev main_call12_v19 : Ref sig .tc := ⟨.hbm, 616, rfl⟩
abbrev main_call12_v20 : Ref sig .tc := ⟨.hbm, 617, rfl⟩
abbrev main_call12_v21 : Ref sig .tc := ⟨.hbm, 618, rfl⟩
abbrev main_call12_c_5 : Ref sig .tc := ⟨.hbm, 619, rfl⟩
abbrev main_call12_v22 : Ref sig .tc := ⟨.hbm, 620, rfl⟩
abbrev main_call12_v23 : Ref sig .tc := ⟨.hbm, 621, rfl⟩
abbrev main_call12_c_6 : Ref sig .tc := ⟨.hbm, 622, rfl⟩
abbrev main_call12_v24 : Ref sig .tc := ⟨.hbm, 623, rfl⟩
abbrev main_call12_v25 : Ref sig .tc := ⟨.hbm, 624, rfl⟩
abbrev main_call12_v26 : Ref sig .tc := ⟨.hbm, 625, rfl⟩
abbrev main_call12_v27 : Ref sig .tc := ⟨.hbm, 626, rfl⟩
abbrev main_call12_v28 : Ref sig .tc := ⟨.hbm, 627, rfl⟩
abbrev main_v126_0 : Ref sig .tc := ⟨.hbm, 628, rfl⟩
abbrev main_call12_c_7 : Ref sig .tc := ⟨.hbm, 629, rfl⟩
abbrev main_call12_v30 : Ref sig .tc := ⟨.hbm, 630, rfl⟩
abbrev main_call12_v31 : Ref sig .tc := ⟨.hbm, 631, rfl⟩
abbrev main_v126_1 : Ref sig .tc := ⟨.hbm, 632, rfl⟩
abbrev main_call13_v0 : Ref sig .tc := ⟨.hbm, 633, rfl⟩
abbrev main_call13_c : Ref sig .tc := ⟨.hbm, 634, rfl⟩
abbrev main_call13_v1 : Ref sig .tc := ⟨.hbm, 635, rfl⟩
abbrev main_call13_v2 : Ref sig .tc := ⟨.hbm, 636, rfl⟩
abbrev main_call13_c_0 : Ref sig .tc := ⟨.hbm, 637, rfl⟩
abbrev main_call13_v3 : Ref sig .tc := ⟨.hbm, 638, rfl⟩
abbrev main_call13_v4 : Ref sig .tc := ⟨.hbm, 639, rfl⟩
abbrev main_call13_v5 : Ref sig .tc := ⟨.hbm, 640, rfl⟩
abbrev main_call13_v6 : Ref sig .tc := ⟨.hbm, 641, rfl⟩
abbrev main_call13_v7 : Ref sig .tc := ⟨.hbm, 642, rfl⟩
abbrev main_call13_c_1 : Ref sig .tc := ⟨.hbm, 643, rfl⟩
abbrev main_call13_v8 : Ref sig .tc := ⟨.hbm, 644, rfl⟩
abbrev main_call13_v9 : Ref sig .tc := ⟨.hbm, 645, rfl⟩
abbrev main_call13_c_2 : Ref sig .tc := ⟨.hbm, 646, rfl⟩
abbrev main_call13_v10 : Ref sig .tc := ⟨.hbm, 647, rfl⟩
abbrev main_call13_v11 : Ref sig .tc := ⟨.hbm, 648, rfl⟩
abbrev main_call13_v12 : Ref sig .tc := ⟨.hbm, 649, rfl⟩
abbrev main_call13_v13 : Ref sig .tc := ⟨.hbm, 650, rfl⟩
abbrev main_call13_v14 : Ref sig .tc := ⟨.hbm, 651, rfl⟩
abbrev main_call13_c_3 : Ref sig .tc := ⟨.hbm, 652, rfl⟩
abbrev main_call13_v15 : Ref sig .tc := ⟨.hbm, 653, rfl⟩
abbrev main_call13_v16 : Ref sig .tc := ⟨.hbm, 654, rfl⟩
abbrev main_call13_c_4 : Ref sig .tc := ⟨.hbm, 655, rfl⟩
abbrev main_call13_v17 : Ref sig .tc := ⟨.hbm, 656, rfl⟩
abbrev main_call13_v18 : Ref sig .tc := ⟨.hbm, 657, rfl⟩
abbrev main_call13_v19 : Ref sig .tc := ⟨.hbm, 658, rfl⟩
abbrev main_call13_v20 : Ref sig .tc := ⟨.hbm, 659, rfl⟩
abbrev main_call13_v21 : Ref sig .tc := ⟨.hbm, 660, rfl⟩
abbrev main_call13_c_5 : Ref sig .tc := ⟨.hbm, 661, rfl⟩
abbrev main_call13_v22 : Ref sig .tc := ⟨.hbm, 662, rfl⟩
abbrev main_call13_v23 : Ref sig .tc := ⟨.hbm, 663, rfl⟩
abbrev main_call13_c_6 : Ref sig .tc := ⟨.hbm, 664, rfl⟩
abbrev main_call13_v24 : Ref sig .tc := ⟨.hbm, 665, rfl⟩
abbrev main_call13_v25 : Ref sig .tc := ⟨.hbm, 666, rfl⟩
abbrev main_call13_v26 : Ref sig .tc := ⟨.hbm, 667, rfl⟩
abbrev main_call13_v27 : Ref sig .tc := ⟨.hbm, 668, rfl⟩
abbrev main_call13_v28 : Ref sig .tc := ⟨.hbm, 669, rfl⟩
abbrev main_v127_0 : Ref sig .tc := ⟨.hbm, 670, rfl⟩
abbrev main_call13_c_7 : Ref sig .tc := ⟨.hbm, 671, rfl⟩
abbrev main_call13_v30 : Ref sig .tc := ⟨.hbm, 672, rfl⟩
abbrev main_call13_v31 : Ref sig .tc := ⟨.hbm, 673, rfl⟩
abbrev main_v127_1 : Ref sig .tc := ⟨.hbm, 674, rfl⟩
abbrev main_call14_v0 : Ref sig .tc := ⟨.hbm, 675, rfl⟩
abbrev main_call14_c : Ref sig .tc := ⟨.hbm, 676, rfl⟩
abbrev main_call14_v1 : Ref sig .tc := ⟨.hbm, 677, rfl⟩
abbrev main_call14_v2 : Ref sig .tc := ⟨.hbm, 678, rfl⟩
abbrev main_call14_c_0 : Ref sig .tc := ⟨.hbm, 679, rfl⟩
abbrev main_call14_v3 : Ref sig .tc := ⟨.hbm, 680, rfl⟩
abbrev main_call14_v4 : Ref sig .tc := ⟨.hbm, 681, rfl⟩
abbrev main_call14_v5 : Ref sig .tc := ⟨.hbm, 682, rfl⟩
abbrev main_call14_v6 : Ref sig .tc := ⟨.hbm, 683, rfl⟩
abbrev main_call14_v7 : Ref sig .tc := ⟨.hbm, 684, rfl⟩
abbrev main_call14_c_1 : Ref sig .tc := ⟨.hbm, 685, rfl⟩
abbrev main_call14_v8 : Ref sig .tc := ⟨.hbm, 686, rfl⟩
abbrev main_call14_v9 : Ref sig .tc := ⟨.hbm, 687, rfl⟩
abbrev main_call14_c_2 : Ref sig .tc := ⟨.hbm, 688, rfl⟩
abbrev main_call14_v10 : Ref sig .tc := ⟨.hbm, 689, rfl⟩
abbrev main_call14_v11 : Ref sig .tc := ⟨.hbm, 690, rfl⟩
abbrev main_call14_v12 : Ref sig .tc := ⟨.hbm, 691, rfl⟩
abbrev main_call14_v13 : Ref sig .tc := ⟨.hbm, 692, rfl⟩
abbrev main_call14_v14 : Ref sig .tc := ⟨.hbm, 693, rfl⟩
abbrev main_call14_c_3 : Ref sig .tc := ⟨.hbm, 694, rfl⟩
abbrev main_call14_v15 : Ref sig .tc := ⟨.hbm, 695, rfl⟩
abbrev main_call14_v16 : Ref sig .tc := ⟨.hbm, 696, rfl⟩
abbrev main_call14_c_4 : Ref sig .tc := ⟨.hbm, 697, rfl⟩
abbrev main_call14_v17 : Ref sig .tc := ⟨.hbm, 698, rfl⟩
abbrev main_call14_v18 : Ref sig .tc := ⟨.hbm, 699, rfl⟩
abbrev main_call14_v19 : Ref sig .tc := ⟨.hbm, 700, rfl⟩
abbrev main_call14_v20 : Ref sig .tc := ⟨.hbm, 701, rfl⟩
abbrev main_call14_v21 : Ref sig .tc := ⟨.hbm, 702, rfl⟩
abbrev main_call14_c_5 : Ref sig .tc := ⟨.hbm, 703, rfl⟩
abbrev main_call14_v22 : Ref sig .tc := ⟨.hbm, 704, rfl⟩
abbrev main_call14_v23 : Ref sig .tc := ⟨.hbm, 705, rfl⟩
abbrev main_call14_c_6 : Ref sig .tc := ⟨.hbm, 706, rfl⟩
abbrev main_call14_v24 : Ref sig .tc := ⟨.hbm, 707, rfl⟩
abbrev main_call14_v25 : Ref sig .tc := ⟨.hbm, 708, rfl⟩
abbrev main_call14_v26 : Ref sig .tc := ⟨.hbm, 709, rfl⟩
abbrev main_call14_v27 : Ref sig .tc := ⟨.hbm, 710, rfl⟩
abbrev main_call14_v28 : Ref sig .tc := ⟨.hbm, 711, rfl⟩
abbrev main_v128_0 : Ref sig .tc := ⟨.hbm, 712, rfl⟩
abbrev main_call14_c_7 : Ref sig .tc := ⟨.hbm, 713, rfl⟩
abbrev main_call14_v30 : Ref sig .tc := ⟨.hbm, 714, rfl⟩
abbrev main_call14_v31 : Ref sig .tc := ⟨.hbm, 715, rfl⟩
abbrev main_v128_1 : Ref sig .tc := ⟨.hbm, 716, rfl⟩
abbrev main_call15_v0 : Ref sig .tc := ⟨.hbm, 717, rfl⟩
abbrev main_call15_c : Ref sig .tc := ⟨.hbm, 718, rfl⟩
abbrev main_call15_v1 : Ref sig .tc := ⟨.hbm, 719, rfl⟩
abbrev main_call15_v2 : Ref sig .tc := ⟨.hbm, 720, rfl⟩
abbrev main_call15_c_0 : Ref sig .tc := ⟨.hbm, 721, rfl⟩
abbrev main_call15_v3 : Ref sig .tc := ⟨.hbm, 722, rfl⟩
abbrev main_call15_v4 : Ref sig .tc := ⟨.hbm, 723, rfl⟩
abbrev main_call15_v5 : Ref sig .tc := ⟨.hbm, 724, rfl⟩
abbrev main_call15_v6 : Ref sig .tc := ⟨.hbm, 725, rfl⟩
abbrev main_call15_v7 : Ref sig .tc := ⟨.hbm, 726, rfl⟩
abbrev main_call15_c_1 : Ref sig .tc := ⟨.hbm, 727, rfl⟩
abbrev main_call15_v8 : Ref sig .tc := ⟨.hbm, 728, rfl⟩
abbrev main_call15_v9 : Ref sig .tc := ⟨.hbm, 729, rfl⟩
abbrev main_call15_c_2 : Ref sig .tc := ⟨.hbm, 730, rfl⟩
abbrev main_call15_v10 : Ref sig .tc := ⟨.hbm, 731, rfl⟩
abbrev main_call15_v11 : Ref sig .tc := ⟨.hbm, 732, rfl⟩
abbrev main_call15_v12 : Ref sig .tc := ⟨.hbm, 733, rfl⟩
abbrev main_call15_v13 : Ref sig .tc := ⟨.hbm, 734, rfl⟩
abbrev main_call15_v14 : Ref sig .tc := ⟨.hbm, 735, rfl⟩
abbrev main_call15_c_3 : Ref sig .tc := ⟨.hbm, 736, rfl⟩
abbrev main_call15_v15 : Ref sig .tc := ⟨.hbm, 737, rfl⟩
abbrev main_call15_v16 : Ref sig .tc := ⟨.hbm, 738, rfl⟩
abbrev main_call15_c_4 : Ref sig .tc := ⟨.hbm, 739, rfl⟩
abbrev main_call15_v17 : Ref sig .tc := ⟨.hbm, 740, rfl⟩
abbrev main_call15_v18 : Ref sig .tc := ⟨.hbm, 741, rfl⟩
abbrev main_call15_v19 : Ref sig .tc := ⟨.hbm, 742, rfl⟩
abbrev main_call15_v20 : Ref sig .tc := ⟨.hbm, 743, rfl⟩
abbrev main_call15_v21 : Ref sig .tc := ⟨.hbm, 744, rfl⟩
abbrev main_call15_c_5 : Ref sig .tc := ⟨.hbm, 745, rfl⟩
abbrev main_call15_v22 : Ref sig .tc := ⟨.hbm, 746, rfl⟩
abbrev main_call15_v23 : Ref sig .tc := ⟨.hbm, 747, rfl⟩
abbrev main_call15_c_6 : Ref sig .tc := ⟨.hbm, 748, rfl⟩
abbrev main_call15_v24 : Ref sig .tc := ⟨.hbm, 749, rfl⟩
abbrev main_call15_v25 : Ref sig .tc := ⟨.hbm, 750, rfl⟩
abbrev main_call15_v26 : Ref sig .tc := ⟨.hbm, 751, rfl⟩
abbrev main_call15_v27 : Ref sig .tc := ⟨.hbm, 752, rfl⟩
abbrev main_call15_v28 : Ref sig .tc := ⟨.hbm, 753, rfl⟩
abbrev main_v129_0 : Ref sig .tc := ⟨.hbm, 754, rfl⟩
abbrev main_call15_c_7 : Ref sig .tc := ⟨.hbm, 755, rfl⟩
abbrev main_call15_v30 : Ref sig .tc := ⟨.hbm, 756, rfl⟩
abbrev main_call15_v31 : Ref sig .tc := ⟨.hbm, 757, rfl⟩
abbrev main_v129_1 : Ref sig .tc := ⟨.hbm, 758, rfl⟩
abbrev main_call16_v0 : Ref sig .tc := ⟨.hbm, 759, rfl⟩
abbrev main_call16_c : Ref sig .tc := ⟨.hbm, 760, rfl⟩
abbrev main_call16_v1 : Ref sig .tc := ⟨.hbm, 761, rfl⟩
abbrev main_call16_v2 : Ref sig .tc := ⟨.hbm, 762, rfl⟩
abbrev main_call16_c_0 : Ref sig .tc := ⟨.hbm, 763, rfl⟩
abbrev main_call16_v3 : Ref sig .tc := ⟨.hbm, 764, rfl⟩
abbrev main_call16_v4 : Ref sig .tc := ⟨.hbm, 765, rfl⟩
abbrev main_call16_v5 : Ref sig .tc := ⟨.hbm, 766, rfl⟩
abbrev main_call16_v6 : Ref sig .tc := ⟨.hbm, 767, rfl⟩
abbrev main_call16_v7 : Ref sig .tc := ⟨.hbm, 768, rfl⟩
abbrev main_call16_c_1 : Ref sig .tc := ⟨.hbm, 769, rfl⟩
abbrev main_call16_v8 : Ref sig .tc := ⟨.hbm, 770, rfl⟩
abbrev main_call16_v9 : Ref sig .tc := ⟨.hbm, 771, rfl⟩
abbrev main_call16_c_2 : Ref sig .tc := ⟨.hbm, 772, rfl⟩
abbrev main_call16_v10 : Ref sig .tc := ⟨.hbm, 773, rfl⟩
abbrev main_call16_v11 : Ref sig .tc := ⟨.hbm, 774, rfl⟩
abbrev main_call16_v12 : Ref sig .tc := ⟨.hbm, 775, rfl⟩
abbrev main_call16_v13 : Ref sig .tc := ⟨.hbm, 776, rfl⟩
abbrev main_call16_v14 : Ref sig .tc := ⟨.hbm, 777, rfl⟩
abbrev main_call16_c_3 : Ref sig .tc := ⟨.hbm, 778, rfl⟩
abbrev main_call16_v15 : Ref sig .tc := ⟨.hbm, 779, rfl⟩
abbrev main_call16_v16 : Ref sig .tc := ⟨.hbm, 780, rfl⟩
abbrev main_call16_c_4 : Ref sig .tc := ⟨.hbm, 781, rfl⟩
abbrev main_call16_v17 : Ref sig .tc := ⟨.hbm, 782, rfl⟩
abbrev main_call16_v18 : Ref sig .tc := ⟨.hbm, 783, rfl⟩
abbrev main_call16_v19 : Ref sig .tc := ⟨.hbm, 784, rfl⟩
abbrev main_call16_v20 : Ref sig .tc := ⟨.hbm, 785, rfl⟩
abbrev main_call16_v21 : Ref sig .tc := ⟨.hbm, 786, rfl⟩
abbrev main_call16_c_5 : Ref sig .tc := ⟨.hbm, 787, rfl⟩
abbrev main_call16_v22 : Ref sig .tc := ⟨.hbm, 788, rfl⟩
abbrev main_call16_v23 : Ref sig .tc := ⟨.hbm, 789, rfl⟩
abbrev main_call16_c_6 : Ref sig .tc := ⟨.hbm, 790, rfl⟩
abbrev main_call16_v24 : Ref sig .tc := ⟨.hbm, 791, rfl⟩
abbrev main_call16_v25 : Ref sig .tc := ⟨.hbm, 792, rfl⟩
abbrev main_call16_v26 : Ref sig .tc := ⟨.hbm, 793, rfl⟩
abbrev main_call16_v27 : Ref sig .tc := ⟨.hbm, 794, rfl⟩
abbrev main_call16_v28 : Ref sig .tc := ⟨.hbm, 795, rfl⟩
abbrev main_v130_0 : Ref sig .tc := ⟨.hbm, 796, rfl⟩
abbrev main_call16_c_7 : Ref sig .tc := ⟨.hbm, 797, rfl⟩
abbrev main_call16_v30 : Ref sig .tc := ⟨.hbm, 798, rfl⟩
abbrev main_call16_v31 : Ref sig .tc := ⟨.hbm, 799, rfl⟩
abbrev main_v130_1 : Ref sig .tc := ⟨.hbm, 800, rfl⟩
abbrev main_v131 : Ref sig .tc := ⟨.hbm, 801, rfl⟩
abbrev main_c_19 : Ref sig .tc := ⟨.hbm, 802, rfl⟩
abbrev main_v132 : Ref sig .tc := ⟨.hbm, 803, rfl⟩
abbrev main_v133 : Ref sig .tc := ⟨.hbm, 804, rfl⟩
abbrev main_c_20 : Ref sig .tc := ⟨.hbm, 805, rfl⟩
abbrev main_v134 : Ref sig .tc := ⟨.hbm, 806, rfl⟩
abbrev main_v135 : Ref sig .tc := ⟨.hbm, 807, rfl⟩
abbrev main_v136 : Ref sig .tc := ⟨.hbm, 808, rfl⟩
abbrev main_cst_21 : Ref sig .tc := ⟨.hbm, 809, rfl⟩
abbrev main_v137 : Ref sig .tc := ⟨.hbm, 810, rfl⟩
abbrev main_v138 : Ref sig .tc := ⟨.hbm, 811, rfl⟩
abbrev main_cst_22 : Ref sig .tc := ⟨.hbm, 812, rfl⟩
abbrev main_v139 : Ref sig .tc := ⟨.hbm, 813, rfl⟩
abbrev main_v140 : Ref sig .tc := ⟨.hbm, 814, rfl⟩
abbrev main_cst_23 : Ref sig .tc := ⟨.hbm, 815, rfl⟩
abbrev main_v141 : Ref sig .tc := ⟨.hbm, 816, rfl⟩
abbrev main_v142 : Ref sig .tc := ⟨.hbm, 817, rfl⟩
abbrev main_cst_24 : Ref sig .tc := ⟨.hbm, 818, rfl⟩
abbrev main_v143 : Ref sig .tc := ⟨.hbm, 819, rfl⟩
abbrev main_v144 : Ref sig .tc := ⟨.hbm, 820, rfl⟩
abbrev main_v145 : Ref sig .tc := ⟨.hbm, 821, rfl⟩
abbrev main_v146 : Ref sig .tc := ⟨.hbm, 822, rfl⟩
abbrev main_v147 : Ref sig .tc := ⟨.hbm, 823, rfl⟩
abbrev main_v148 : Ref sig .tc := ⟨.hbm, 824, rfl⟩
abbrev main_v149 : Ref sig .tc := ⟨.hbm, 825, rfl⟩
abbrev main_v150 : Ref sig .tc := ⟨.hbm, 826, rfl⟩
abbrev main_cst_25 : Ref sig .tc := ⟨.hbm, 827, rfl⟩
abbrev main_v151 : Ref sig .tc := ⟨.hbm, 828, rfl⟩
abbrev main_v152 : Ref sig .tc := ⟨.hbm, 829, rfl⟩
abbrev main_v153 : Ref sig .tc := ⟨.hbm, 830, rfl⟩
abbrev main_v154 : Ref sig .tc := ⟨.hbm, 831, rfl⟩
abbrev main_v155 : Ref sig .tc := ⟨.hbm, 832, rfl⟩
abbrev main_c_26 : Ref sig .tc := ⟨.hbm, 833, rfl⟩
abbrev main_call17_v0 : Ref sig .tc := ⟨.hbm, 834, rfl⟩
abbrev main_call17_v1 : Ref sig .tc := ⟨.hbm, 835, rfl⟩
abbrev main_v156 : Ref sig .tc := ⟨.hbm, 836, rfl⟩
abbrev main_c_27 : Ref sig .tc := ⟨.hbm, 837, rfl⟩
abbrev main_v157 : Ref sig .tc := ⟨.hbm, 838, rfl⟩
abbrev main_v158 : Ref sig .tc := ⟨.hbm, 839, rfl⟩
abbrev main_call18_c : Ref sig .tc := ⟨.hbm, 840, rfl⟩
abbrev main_call18_v0 : Ref sig .tc := ⟨.hbm, 841, rfl⟩
abbrev main_call18_v1 : Ref sig .tc := ⟨.hbm, 842, rfl⟩
abbrev main_call18_c_0 : Ref sig .tc := ⟨.hbm, 843, rfl⟩
abbrev main_call18_v2 : Ref sig .tc := ⟨.hbm, 844, rfl⟩
abbrev main_call18_v3 : Ref sig .tc := ⟨.hbm, 845, rfl⟩
abbrev main_call18_v4 : Ref sig .tc := ⟨.hbm, 846, rfl⟩
abbrev main_call18_c_1 : Ref sig .tc := ⟨.hbm, 847, rfl⟩
abbrev main_call18_c_2 : Ref sig .tc := ⟨.hbm, 848, rfl⟩
abbrev main_call18_v5 : Ref sig .tc := ⟨.hbm, 849, rfl⟩
abbrev main_call18_v6 : Ref sig .tc := ⟨.hbm, 850, rfl⟩
abbrev main_call18_v7 : Ref sig .tc := ⟨.hbm, 851, rfl⟩
abbrev main_call18_v8 : Ref sig .tc := ⟨.hbm, 852, rfl⟩
abbrev main_call18_v9 : Ref sig .tc := ⟨.hbm, 853, rfl⟩
abbrev main_call18_v10 : Ref sig .tc := ⟨.hbm, 854, rfl⟩
abbrev main_call18_c_3 : Ref sig .tc := ⟨.hbm, 855, rfl⟩
abbrev main_call18_v11 : Ref sig .tc := ⟨.hbm, 856, rfl⟩
abbrev main_call18_v12 : Ref sig .tc := ⟨.hbm, 857, rfl⟩
abbrev main_call18_v13 : Ref sig .tc := ⟨.hbm, 858, rfl⟩
abbrev main_call18_cst : Ref sig .tc := ⟨.hbm, 859, rfl⟩
abbrev main_call18_v14 : Ref sig .tc := ⟨.hbm, 860, rfl⟩
abbrev main_v159 : Ref sig .tc := ⟨.hbm, 861, rfl⟩
abbrev main_v160 : Ref sig .tc := ⟨.hbm, 862, rfl⟩
abbrev main_v161 : Ref sig .tc := ⟨.hbm, 863, rfl⟩
abbrev main_call19_c : Ref sig .tc := ⟨.hbm, 864, rfl⟩
abbrev main_call19_v0 : Ref sig .tc := ⟨.hbm, 865, rfl⟩
abbrev main_call19_v1 : Ref sig .tc := ⟨.hbm, 866, rfl⟩
abbrev main_call19_c_0 : Ref sig .tc := ⟨.hbm, 867, rfl⟩
abbrev main_call19_v2 : Ref sig .tc := ⟨.hbm, 868, rfl⟩
abbrev main_call19_v3 : Ref sig .tc := ⟨.hbm, 869, rfl⟩
abbrev main_call19_v4 : Ref sig .tc := ⟨.hbm, 870, rfl⟩
abbrev main_call19_v5 : Ref sig .tc := ⟨.hbm, 871, rfl⟩
abbrev main_call19_c_1 : Ref sig .tc := ⟨.hbm, 872, rfl⟩
abbrev main_call19_c_2 : Ref sig .tc := ⟨.hbm, 873, rfl⟩
abbrev main_call19_v6 : Ref sig .tc := ⟨.hbm, 874, rfl⟩
abbrev main_call19_v7 : Ref sig .tc := ⟨.hbm, 875, rfl⟩
abbrev main_call19_v8 : Ref sig .tc := ⟨.hbm, 876, rfl⟩
abbrev main_call19_v9 : Ref sig .tc := ⟨.hbm, 877, rfl⟩
abbrev main_call19_v10 : Ref sig .tc := ⟨.hbm, 878, rfl⟩
abbrev main_call19_v11 : Ref sig .tc := ⟨.hbm, 879, rfl⟩
abbrev main_call19_c_3 : Ref sig .tc := ⟨.hbm, 880, rfl⟩
abbrev main_call19_v12 : Ref sig .tc := ⟨.hbm, 881, rfl⟩
abbrev main_call19_v13 : Ref sig .tc := ⟨.hbm, 882, rfl⟩
abbrev main_call19_v14 : Ref sig .tc := ⟨.hbm, 883, rfl⟩
abbrev main_call19_cst : Ref sig .tc := ⟨.hbm, 884, rfl⟩
abbrev main_call19_v15 : Ref sig .tc := ⟨.hbm, 885, rfl⟩
abbrev main_v162 : Ref sig .tc := ⟨.hbm, 886, rfl⟩
abbrev main_v163 : Ref sig .tc := ⟨.hbm, 887, rfl⟩
abbrev main_call20_v0 : Ref sig .tc := ⟨.hbm, 888, rfl⟩
abbrev main_call20_v1 : Ref sig .tc := ⟨.hbm, 889, rfl⟩
abbrev main_call20_c : Ref sig .tc := ⟨.hbm, 890, rfl⟩
abbrev main_call20_v2 : Ref sig .tc := ⟨.hbm, 891, rfl⟩
abbrev main_call20_v3 : Ref sig .tc := ⟨.hbm, 892, rfl⟩
abbrev main_call20_c_0 : Ref sig .tc := ⟨.hbm, 893, rfl⟩
abbrev main_call20_v4 : Ref sig .tc := ⟨.hbm, 894, rfl⟩
abbrev main_call20_v5 : Ref sig .tc := ⟨.hbm, 895, rfl⟩
abbrev main_call20_v6 : Ref sig .tc := ⟨.hbm, 896, rfl⟩
abbrev main_call20_c_1 : Ref sig .tc := ⟨.hbm, 897, rfl⟩
abbrev main_call20_v7 : Ref sig .tc := ⟨.hbm, 898, rfl⟩
abbrev main_call20_v8 : Ref sig .tc := ⟨.hbm, 899, rfl⟩
abbrev main_call20_c_2 : Ref sig .tc := ⟨.hbm, 900, rfl⟩
abbrev main_call20_v9 : Ref sig .tc := ⟨.hbm, 901, rfl⟩
abbrev main_call20_v10 : Ref sig .tc := ⟨.hbm, 902, rfl⟩
abbrev main_call20_v11 : Ref sig .tc := ⟨.hbm, 903, rfl⟩
abbrev main_call20_v12 : Ref sig .tc := ⟨.hbm, 904, rfl⟩
abbrev main_call20_v13 : Ref sig .tc := ⟨.hbm, 905, rfl⟩
abbrev main_call20_v14 : Ref sig .tc := ⟨.hbm, 906, rfl⟩
abbrev main_v164 : Ref sig .tc := ⟨.hbm, 907, rfl⟩
abbrev main_v165 : Ref sig .tc := ⟨.hbm, 908, rfl⟩
abbrev main_call21_v0 : Ref sig .tc := ⟨.hbm, 909, rfl⟩
abbrev main_call21_c : Ref sig .tc := ⟨.hbm, 910, rfl⟩
abbrev main_call21_v1 : Ref sig .tc := ⟨.hbm, 911, rfl⟩
abbrev main_call21_v2 : Ref sig .tc := ⟨.hbm, 912, rfl⟩
abbrev main_call21_v3 : Ref sig .tc := ⟨.hbm, 913, rfl⟩
abbrev main_call21_v4 : Ref sig .tc := ⟨.hbm, 914, rfl⟩
abbrev main_call21_v5 : Ref sig .tc := ⟨.hbm, 915, rfl⟩
abbrev main_call21_cst : Ref sig .tc := ⟨.hbm, 916, rfl⟩
abbrev main_call21_v6 : Ref sig .tc := ⟨.hbm, 917, rfl⟩
abbrev main_v166 : Ref sig .tc := ⟨.hbm, 918, rfl⟩
abbrev main_v167 : Ref sig .tc := ⟨.hbm, 919, rfl⟩
abbrev main_v168 : Ref sig .tc := ⟨.hbm, 920, rfl⟩
abbrev main_v169 : Ref sig .tc := ⟨.hbm, 921, rfl⟩
abbrev main_c_28 : Ref sig .tc := ⟨.hbm, 922, rfl⟩
abbrev main_v170 : Ref sig .tc := ⟨.hbm, 923, rfl⟩
abbrev main_v171 : Ref sig .tc := ⟨.hbm, 924, rfl⟩
abbrev main_v172 : Ref sig .tc := ⟨.hbm, 925, rfl⟩
abbrev main_v173 : Ref sig .tc := ⟨.hbm, 926, rfl⟩
abbrev main_v174 : Ref sig .tc := ⟨.hbm, 927, rfl⟩
abbrev main_v175 : Ref sig .tc := ⟨.hbm, 928, rfl⟩
abbrev main_v176 : Ref sig .tc := ⟨.hbm, 929, rfl⟩
abbrev main_v177 : Ref sig .tc := ⟨.hbm, 930, rfl⟩
abbrev main_v178 : Ref sig .tc := ⟨.hbm, 931, rfl⟩
abbrev main_v179 : Ref sig .tc := ⟨.hbm, 932, rfl⟩
abbrev main_v180 : Ref sig .tc := ⟨.hbm, 933, rfl⟩
abbrev main_c_29 : Ref sig .tc := ⟨.hbm, 934, rfl⟩
abbrev main_v181 : Ref sig .tc := ⟨.hbm, 935, rfl⟩
abbrev main_c_30 : Ref sig .tc := ⟨.hbm, 936, rfl⟩
abbrev main_v182 : Ref sig .tc := ⟨.hbm, 937, rfl⟩
abbrev main_v183 : Ref sig .tc := ⟨.hbm, 938, rfl⟩
abbrev main_v184 : Ref sig .tc := ⟨.hbm, 939, rfl⟩
abbrev main_v185 : Ref sig .tc := ⟨.hbm, 940, rfl⟩
abbrev main_v186 : Ref sig .tc := ⟨.hbm, 941, rfl⟩
abbrev main_v187 : Ref sig .tc := ⟨.hbm, 942, rfl⟩
abbrev main_v188 : Ref sig .tc := ⟨.hbm, 943, rfl⟩
abbrev main_v189 : Ref sig .tc := ⟨.hbm, 944, rfl⟩
abbrev main_v190 : Ref sig .tc := ⟨.hbm, 945, rfl⟩
abbrev main_v191 : Ref sig .tc := ⟨.hbm, 946, rfl⟩
abbrev main_v192 : Ref sig .tc := ⟨.hbm, 947, rfl⟩
abbrev main_v193 : Ref sig .tc := ⟨.hbm, 948, rfl⟩
abbrev main_c_31 : Ref sig .tc := ⟨.hbm, 949, rfl⟩
abbrev main_v194 : Ref sig .tc := ⟨.hbm, 950, rfl⟩
abbrev main_v195 : Ref sig .tc := ⟨.hbm, 951, rfl⟩
abbrev main_v196 : Ref sig .tc := ⟨.hbm, 952, rfl⟩
abbrev main_v197 : Ref sig .tc := ⟨.hbm, 953, rfl⟩
abbrev main_v198 : Ref sig .tc := ⟨.hbm, 954, rfl⟩
abbrev main_call22_v0 : Ref sig .tc := ⟨.hbm, 955, rfl⟩
abbrev main_call22_c : Ref sig .tc := ⟨.hbm, 956, rfl⟩
abbrev main_call22_v1 : Ref sig .tc := ⟨.hbm, 957, rfl⟩
abbrev main_call22_v2 : Ref sig .tc := ⟨.hbm, 958, rfl⟩
abbrev main_call22_c_0 : Ref sig .tc := ⟨.hbm, 959, rfl⟩
abbrev main_call22_v3 : Ref sig .tc := ⟨.hbm, 960, rfl⟩
abbrev main_call22_v4 : Ref sig .tc := ⟨.hbm, 961, rfl⟩
abbrev main_call22_v5 : Ref sig .tc := ⟨.hbm, 962, rfl⟩
abbrev main_call22_v6 : Ref sig .tc := ⟨.hbm, 963, rfl⟩
abbrev main_call22_v7 : Ref sig .tc := ⟨.hbm, 964, rfl⟩
abbrev main_call22_c_1 : Ref sig .tc := ⟨.hbm, 965, rfl⟩
abbrev main_call22_v8 : Ref sig .tc := ⟨.hbm, 966, rfl⟩
abbrev main_call22_v9 : Ref sig .tc := ⟨.hbm, 967, rfl⟩
abbrev main_call22_c_2 : Ref sig .tc := ⟨.hbm, 968, rfl⟩
abbrev main_call22_v10 : Ref sig .tc := ⟨.hbm, 969, rfl⟩
abbrev main_call22_v11 : Ref sig .tc := ⟨.hbm, 970, rfl⟩
abbrev main_call22_v12 : Ref sig .tc := ⟨.hbm, 971, rfl⟩
abbrev main_call22_v13 : Ref sig .tc := ⟨.hbm, 972, rfl⟩
abbrev main_call22_v14 : Ref sig .tc := ⟨.hbm, 973, rfl⟩
abbrev main_call22_c_3 : Ref sig .tc := ⟨.hbm, 974, rfl⟩
abbrev main_call22_v15 : Ref sig .tc := ⟨.hbm, 975, rfl⟩
abbrev main_call22_v16 : Ref sig .tc := ⟨.hbm, 976, rfl⟩
abbrev main_call22_c_4 : Ref sig .tc := ⟨.hbm, 977, rfl⟩
abbrev main_call22_v17 : Ref sig .tc := ⟨.hbm, 978, rfl⟩
abbrev main_call22_v18 : Ref sig .tc := ⟨.hbm, 979, rfl⟩
abbrev main_call22_v19 : Ref sig .tc := ⟨.hbm, 980, rfl⟩
abbrev main_call22_v20 : Ref sig .tc := ⟨.hbm, 981, rfl⟩
abbrev main_call22_v21 : Ref sig .tc := ⟨.hbm, 982, rfl⟩
abbrev main_call22_c_5 : Ref sig .tc := ⟨.hbm, 983, rfl⟩
abbrev main_call22_v22 : Ref sig .tc := ⟨.hbm, 984, rfl⟩
abbrev main_call22_v23 : Ref sig .tc := ⟨.hbm, 985, rfl⟩
abbrev main_call22_c_6 : Ref sig .tc := ⟨.hbm, 986, rfl⟩
abbrev main_call22_v24 : Ref sig .tc := ⟨.hbm, 987, rfl⟩
abbrev main_call22_v25 : Ref sig .tc := ⟨.hbm, 988, rfl⟩
abbrev main_call22_v26 : Ref sig .tc := ⟨.hbm, 989, rfl⟩
abbrev main_call22_v27 : Ref sig .tc := ⟨.hbm, 990, rfl⟩
abbrev main_call22_v28 : Ref sig .tc := ⟨.hbm, 991, rfl⟩
abbrev main_v199_0 : Ref sig .tc := ⟨.hbm, 992, rfl⟩
abbrev main_call22_c_7 : Ref sig .tc := ⟨.hbm, 993, rfl⟩
abbrev main_call22_v30 : Ref sig .tc := ⟨.hbm, 994, rfl⟩
abbrev main_call22_v31 : Ref sig .tc := ⟨.hbm, 995, rfl⟩
abbrev main_v199_1 : Ref sig .tc := ⟨.hbm, 996, rfl⟩
abbrev main_call23_v0 : Ref sig .tc := ⟨.hbm, 997, rfl⟩
abbrev main_call23_c : Ref sig .tc := ⟨.hbm, 998, rfl⟩
abbrev main_call23_v1 : Ref sig .tc := ⟨.hbm, 999, rfl⟩
abbrev main_call23_v2 : Ref sig .tc := ⟨.hbm, 1000, rfl⟩
abbrev main_call23_c_0 : Ref sig .tc := ⟨.hbm, 1001, rfl⟩
abbrev main_call23_v3 : Ref sig .tc := ⟨.hbm, 1002, rfl⟩
abbrev main_call23_v4 : Ref sig .tc := ⟨.hbm, 1003, rfl⟩
abbrev main_call23_v5 : Ref sig .tc := ⟨.hbm, 1004, rfl⟩
abbrev main_call23_v6 : Ref sig .tc := ⟨.hbm, 1005, rfl⟩
abbrev main_call23_v7 : Ref sig .tc := ⟨.hbm, 1006, rfl⟩
abbrev main_call23_c_1 : Ref sig .tc := ⟨.hbm, 1007, rfl⟩
abbrev main_call23_v8 : Ref sig .tc := ⟨.hbm, 1008, rfl⟩
abbrev main_call23_v9 : Ref sig .tc := ⟨.hbm, 1009, rfl⟩
abbrev main_call23_c_2 : Ref sig .tc := ⟨.hbm, 1010, rfl⟩
abbrev main_call23_v10 : Ref sig .tc := ⟨.hbm, 1011, rfl⟩
abbrev main_call23_v11 : Ref sig .tc := ⟨.hbm, 1012, rfl⟩
abbrev main_call23_v12 : Ref sig .tc := ⟨.hbm, 1013, rfl⟩
abbrev main_call23_v13 : Ref sig .tc := ⟨.hbm, 1014, rfl⟩
abbrev main_call23_v14 : Ref sig .tc := ⟨.hbm, 1015, rfl⟩
abbrev main_call23_c_3 : Ref sig .tc := ⟨.hbm, 1016, rfl⟩
abbrev main_call23_v15 : Ref sig .tc := ⟨.hbm, 1017, rfl⟩
abbrev main_call23_v16 : Ref sig .tc := ⟨.hbm, 1018, rfl⟩
abbrev main_call23_c_4 : Ref sig .tc := ⟨.hbm, 1019, rfl⟩
abbrev main_call23_v17 : Ref sig .tc := ⟨.hbm, 1020, rfl⟩
abbrev main_call23_v18 : Ref sig .tc := ⟨.hbm, 1021, rfl⟩
abbrev main_call23_v19 : Ref sig .tc := ⟨.hbm, 1022, rfl⟩
abbrev main_call23_v20 : Ref sig .tc := ⟨.hbm, 1023, rfl⟩
abbrev main_call23_v21 : Ref sig .tc := ⟨.hbm, 1024, rfl⟩
abbrev main_call23_c_5 : Ref sig .tc := ⟨.hbm, 1025, rfl⟩
abbrev main_call23_v22 : Ref sig .tc := ⟨.hbm, 1026, rfl⟩
abbrev main_call23_v23 : Ref sig .tc := ⟨.hbm, 1027, rfl⟩
abbrev main_call23_c_6 : Ref sig .tc := ⟨.hbm, 1028, rfl⟩
abbrev main_call23_v24 : Ref sig .tc := ⟨.hbm, 1029, rfl⟩
abbrev main_call23_v25 : Ref sig .tc := ⟨.hbm, 1030, rfl⟩
abbrev main_call23_v26 : Ref sig .tc := ⟨.hbm, 1031, rfl⟩
abbrev main_call23_v27 : Ref sig .tc := ⟨.hbm, 1032, rfl⟩
abbrev main_call23_v28 : Ref sig .tc := ⟨.hbm, 1033, rfl⟩
abbrev main_v200_0 : Ref sig .tc := ⟨.hbm, 1034, rfl⟩
abbrev main_call23_c_7 : Ref sig .tc := ⟨.hbm, 1035, rfl⟩
abbrev main_call23_v30 : Ref sig .tc := ⟨.hbm, 1036, rfl⟩
abbrev main_call23_v31 : Ref sig .tc := ⟨.hbm, 1037, rfl⟩
abbrev main_v200_1 : Ref sig .tc := ⟨.hbm, 1038, rfl⟩
abbrev main_call24_v0 : Ref sig .tc := ⟨.hbm, 1039, rfl⟩
abbrev main_call24_c : Ref sig .tc := ⟨.hbm, 1040, rfl⟩
abbrev main_call24_v1 : Ref sig .tc := ⟨.hbm, 1041, rfl⟩
abbrev main_call24_v2 : Ref sig .tc := ⟨.hbm, 1042, rfl⟩
abbrev main_call24_c_0 : Ref sig .tc := ⟨.hbm, 1043, rfl⟩
abbrev main_call24_v3 : Ref sig .tc := ⟨.hbm, 1044, rfl⟩
abbrev main_call24_v4 : Ref sig .tc := ⟨.hbm, 1045, rfl⟩
abbrev main_call24_v5 : Ref sig .tc := ⟨.hbm, 1046, rfl⟩
abbrev main_call24_v6 : Ref sig .tc := ⟨.hbm, 1047, rfl⟩
abbrev main_call24_v7 : Ref sig .tc := ⟨.hbm, 1048, rfl⟩
abbrev main_call24_c_1 : Ref sig .tc := ⟨.hbm, 1049, rfl⟩
abbrev main_call24_v8 : Ref sig .tc := ⟨.hbm, 1050, rfl⟩
abbrev main_call24_v9 : Ref sig .tc := ⟨.hbm, 1051, rfl⟩
abbrev main_call24_c_2 : Ref sig .tc := ⟨.hbm, 1052, rfl⟩
abbrev main_call24_v10 : Ref sig .tc := ⟨.hbm, 1053, rfl⟩
abbrev main_call24_v11 : Ref sig .tc := ⟨.hbm, 1054, rfl⟩
abbrev main_call24_v12 : Ref sig .tc := ⟨.hbm, 1055, rfl⟩
abbrev main_call24_v13 : Ref sig .tc := ⟨.hbm, 1056, rfl⟩
abbrev main_call24_v14 : Ref sig .tc := ⟨.hbm, 1057, rfl⟩
abbrev main_call24_c_3 : Ref sig .tc := ⟨.hbm, 1058, rfl⟩
abbrev main_call24_v15 : Ref sig .tc := ⟨.hbm, 1059, rfl⟩
abbrev main_call24_v16 : Ref sig .tc := ⟨.hbm, 1060, rfl⟩
abbrev main_call24_c_4 : Ref sig .tc := ⟨.hbm, 1061, rfl⟩
abbrev main_call24_v17 : Ref sig .tc := ⟨.hbm, 1062, rfl⟩
abbrev main_call24_v18 : Ref sig .tc := ⟨.hbm, 1063, rfl⟩
abbrev main_call24_v19 : Ref sig .tc := ⟨.hbm, 1064, rfl⟩
abbrev main_call24_v20 : Ref sig .tc := ⟨.hbm, 1065, rfl⟩
abbrev main_call24_v21 : Ref sig .tc := ⟨.hbm, 1066, rfl⟩
abbrev main_call24_c_5 : Ref sig .tc := ⟨.hbm, 1067, rfl⟩
abbrev main_call24_v22 : Ref sig .tc := ⟨.hbm, 1068, rfl⟩
abbrev main_call24_v23 : Ref sig .tc := ⟨.hbm, 1069, rfl⟩
abbrev main_call24_c_6 : Ref sig .tc := ⟨.hbm, 1070, rfl⟩
abbrev main_call24_v24 : Ref sig .tc := ⟨.hbm, 1071, rfl⟩
abbrev main_call24_v25 : Ref sig .tc := ⟨.hbm, 1072, rfl⟩
abbrev main_call24_v26 : Ref sig .tc := ⟨.hbm, 1073, rfl⟩
abbrev main_call24_v27 : Ref sig .tc := ⟨.hbm, 1074, rfl⟩
abbrev main_call24_v28 : Ref sig .tc := ⟨.hbm, 1075, rfl⟩
abbrev main_v201_0 : Ref sig .tc := ⟨.hbm, 1076, rfl⟩
abbrev main_call24_c_7 : Ref sig .tc := ⟨.hbm, 1077, rfl⟩
abbrev main_call24_v30 : Ref sig .tc := ⟨.hbm, 1078, rfl⟩
abbrev main_call24_v31 : Ref sig .tc := ⟨.hbm, 1079, rfl⟩
abbrev main_v201_1 : Ref sig .tc := ⟨.hbm, 1080, rfl⟩
abbrev main_call25_v0 : Ref sig .tc := ⟨.hbm, 1081, rfl⟩
abbrev main_call25_c : Ref sig .tc := ⟨.hbm, 1082, rfl⟩
abbrev main_call25_v1 : Ref sig .tc := ⟨.hbm, 1083, rfl⟩
abbrev main_call25_v2 : Ref sig .tc := ⟨.hbm, 1084, rfl⟩
abbrev main_call25_c_0 : Ref sig .tc := ⟨.hbm, 1085, rfl⟩
abbrev main_call25_v3 : Ref sig .tc := ⟨.hbm, 1086, rfl⟩
abbrev main_call25_v4 : Ref sig .tc := ⟨.hbm, 1087, rfl⟩
abbrev main_call25_v5 : Ref sig .tc := ⟨.hbm, 1088, rfl⟩
abbrev main_call25_v6 : Ref sig .tc := ⟨.hbm, 1089, rfl⟩
abbrev main_call25_v7 : Ref sig .tc := ⟨.hbm, 1090, rfl⟩
abbrev main_call25_c_1 : Ref sig .tc := ⟨.hbm, 1091, rfl⟩
abbrev main_call25_v8 : Ref sig .tc := ⟨.hbm, 1092, rfl⟩
abbrev main_call25_v9 : Ref sig .tc := ⟨.hbm, 1093, rfl⟩
abbrev main_call25_c_2 : Ref sig .tc := ⟨.hbm, 1094, rfl⟩
abbrev main_call25_v10 : Ref sig .tc := ⟨.hbm, 1095, rfl⟩
abbrev main_call25_v11 : Ref sig .tc := ⟨.hbm, 1096, rfl⟩
abbrev main_call25_v12 : Ref sig .tc := ⟨.hbm, 1097, rfl⟩
abbrev main_call25_v13 : Ref sig .tc := ⟨.hbm, 1098, rfl⟩
abbrev main_call25_v14 : Ref sig .tc := ⟨.hbm, 1099, rfl⟩
abbrev main_call25_c_3 : Ref sig .tc := ⟨.hbm, 1100, rfl⟩
abbrev main_call25_v15 : Ref sig .tc := ⟨.hbm, 1101, rfl⟩
abbrev main_call25_v16 : Ref sig .tc := ⟨.hbm, 1102, rfl⟩
abbrev main_call25_c_4 : Ref sig .tc := ⟨.hbm, 1103, rfl⟩
abbrev main_call25_v17 : Ref sig .tc := ⟨.hbm, 1104, rfl⟩
abbrev main_call25_v18 : Ref sig .tc := ⟨.hbm, 1105, rfl⟩
abbrev main_call25_v19 : Ref sig .tc := ⟨.hbm, 1106, rfl⟩
abbrev main_call25_v20 : Ref sig .tc := ⟨.hbm, 1107, rfl⟩
abbrev main_call25_v21 : Ref sig .tc := ⟨.hbm, 1108, rfl⟩
abbrev main_call25_c_5 : Ref sig .tc := ⟨.hbm, 1109, rfl⟩
abbrev main_call25_v22 : Ref sig .tc := ⟨.hbm, 1110, rfl⟩
abbrev main_call25_v23 : Ref sig .tc := ⟨.hbm, 1111, rfl⟩
abbrev main_call25_c_6 : Ref sig .tc := ⟨.hbm, 1112, rfl⟩
abbrev main_call25_v24 : Ref sig .tc := ⟨.hbm, 1113, rfl⟩
abbrev main_call25_v25 : Ref sig .tc := ⟨.hbm, 1114, rfl⟩
abbrev main_call25_v26 : Ref sig .tc := ⟨.hbm, 1115, rfl⟩
abbrev main_call25_v27 : Ref sig .tc := ⟨.hbm, 1116, rfl⟩
abbrev main_call25_v28 : Ref sig .tc := ⟨.hbm, 1117, rfl⟩
abbrev main_v202_0 : Ref sig .tc := ⟨.hbm, 1118, rfl⟩
abbrev main_call25_c_7 : Ref sig .tc := ⟨.hbm, 1119, rfl⟩
abbrev main_call25_v30 : Ref sig .tc := ⟨.hbm, 1120, rfl⟩
abbrev main_call25_v31 : Ref sig .tc := ⟨.hbm, 1121, rfl⟩
abbrev main_v202_1 : Ref sig .tc := ⟨.hbm, 1122, rfl⟩
abbrev main_call26_v0 : Ref sig .tc := ⟨.hbm, 1123, rfl⟩
abbrev main_call26_c : Ref sig .tc := ⟨.hbm, 1124, rfl⟩
abbrev main_call26_v1 : Ref sig .tc := ⟨.hbm, 1125, rfl⟩
abbrev main_call26_v2 : Ref sig .tc := ⟨.hbm, 1126, rfl⟩
abbrev main_call26_c_0 : Ref sig .tc := ⟨.hbm, 1127, rfl⟩
abbrev main_call26_v3 : Ref sig .tc := ⟨.hbm, 1128, rfl⟩
abbrev main_call26_v4 : Ref sig .tc := ⟨.hbm, 1129, rfl⟩
abbrev main_call26_v5 : Ref sig .tc := ⟨.hbm, 1130, rfl⟩
abbrev main_call26_v6 : Ref sig .tc := ⟨.hbm, 1131, rfl⟩
abbrev main_call26_v7 : Ref sig .tc := ⟨.hbm, 1132, rfl⟩
abbrev main_call26_c_1 : Ref sig .tc := ⟨.hbm, 1133, rfl⟩
abbrev main_call26_v8 : Ref sig .tc := ⟨.hbm, 1134, rfl⟩
abbrev main_call26_v9 : Ref sig .tc := ⟨.hbm, 1135, rfl⟩
abbrev main_call26_c_2 : Ref sig .tc := ⟨.hbm, 1136, rfl⟩
abbrev main_call26_v10 : Ref sig .tc := ⟨.hbm, 1137, rfl⟩
abbrev main_call26_v11 : Ref sig .tc := ⟨.hbm, 1138, rfl⟩
abbrev main_call26_v12 : Ref sig .tc := ⟨.hbm, 1139, rfl⟩
abbrev main_call26_v13 : Ref sig .tc := ⟨.hbm, 1140, rfl⟩
abbrev main_call26_v14 : Ref sig .tc := ⟨.hbm, 1141, rfl⟩
abbrev main_call26_c_3 : Ref sig .tc := ⟨.hbm, 1142, rfl⟩
abbrev main_call26_v15 : Ref sig .tc := ⟨.hbm, 1143, rfl⟩
abbrev main_call26_v16 : Ref sig .tc := ⟨.hbm, 1144, rfl⟩
abbrev main_call26_c_4 : Ref sig .tc := ⟨.hbm, 1145, rfl⟩
abbrev main_call26_v17 : Ref sig .tc := ⟨.hbm, 1146, rfl⟩
abbrev main_call26_v18 : Ref sig .tc := ⟨.hbm, 1147, rfl⟩
abbrev main_call26_v19 : Ref sig .tc := ⟨.hbm, 1148, rfl⟩
abbrev main_call26_v20 : Ref sig .tc := ⟨.hbm, 1149, rfl⟩
abbrev main_call26_v21 : Ref sig .tc := ⟨.hbm, 1150, rfl⟩
abbrev main_call26_c_5 : Ref sig .tc := ⟨.hbm, 1151, rfl⟩
abbrev main_call26_v22 : Ref sig .tc := ⟨.hbm, 1152, rfl⟩
abbrev main_call26_v23 : Ref sig .tc := ⟨.hbm, 1153, rfl⟩
abbrev main_call26_c_6 : Ref sig .tc := ⟨.hbm, 1154, rfl⟩
abbrev main_call26_v24 : Ref sig .tc := ⟨.hbm, 1155, rfl⟩
abbrev main_call26_v25 : Ref sig .tc := ⟨.hbm, 1156, rfl⟩
abbrev main_call26_v26 : Ref sig .tc := ⟨.hbm, 1157, rfl⟩
abbrev main_call26_v27 : Ref sig .tc := ⟨.hbm, 1158, rfl⟩
abbrev main_call26_v28 : Ref sig .tc := ⟨.hbm, 1159, rfl⟩
abbrev main_v203_0 : Ref sig .tc := ⟨.hbm, 1160, rfl⟩
abbrev main_call26_c_7 : Ref sig .tc := ⟨.hbm, 1161, rfl⟩
abbrev main_call26_v30 : Ref sig .tc := ⟨.hbm, 1162, rfl⟩
abbrev main_call26_v31 : Ref sig .tc := ⟨.hbm, 1163, rfl⟩
abbrev main_v203_1 : Ref sig .tc := ⟨.hbm, 1164, rfl⟩
abbrev main_v204 : Ref sig .tc := ⟨.hbm, 1165, rfl⟩
abbrev main_c_32 : Ref sig .tc := ⟨.hbm, 1166, rfl⟩
abbrev main_v205 : Ref sig .tc := ⟨.hbm, 1167, rfl⟩
abbrev main_v206 : Ref sig .tc := ⟨.hbm, 1168, rfl⟩
abbrev main_c_33 : Ref sig .tc := ⟨.hbm, 1169, rfl⟩
abbrev main_v207 : Ref sig .tc := ⟨.hbm, 1170, rfl⟩
abbrev main_v208 : Ref sig .tc := ⟨.hbm, 1171, rfl⟩
abbrev main_v209 : Ref sig .tc := ⟨.hbm, 1172, rfl⟩
abbrev main_cst_34 : Ref sig .tc := ⟨.hbm, 1173, rfl⟩
abbrev main_v210 : Ref sig .tc := ⟨.hbm, 1174, rfl⟩
abbrev main_v211 : Ref sig .tc := ⟨.hbm, 1175, rfl⟩
abbrev main_cst_35 : Ref sig .tc := ⟨.hbm, 1176, rfl⟩
abbrev main_v212 : Ref sig .tc := ⟨.hbm, 1177, rfl⟩
abbrev main_v213 : Ref sig .tc := ⟨.hbm, 1178, rfl⟩
abbrev main_cst_36 : Ref sig .tc := ⟨.hbm, 1179, rfl⟩
abbrev main_v214 : Ref sig .tc := ⟨.hbm, 1180, rfl⟩
abbrev main_v215 : Ref sig .tc := ⟨.hbm, 1181, rfl⟩
abbrev main_cst_37 : Ref sig .tc := ⟨.hbm, 1182, rfl⟩
abbrev main_v216 : Ref sig .tc := ⟨.hbm, 1183, rfl⟩
abbrev main_v217 : Ref sig .tc := ⟨.hbm, 1184, rfl⟩
abbrev main_v218 : Ref sig .tc := ⟨.hbm, 1185, rfl⟩
abbrev main_v219 : Ref sig .tc := ⟨.hbm, 1186, rfl⟩
abbrev main_v220 : Ref sig .tc := ⟨.hbm, 1187, rfl⟩
abbrev main_v221 : Ref sig .tc := ⟨.hbm, 1188, rfl⟩
abbrev main_cst_38 : Ref sig .tc := ⟨.hbm, 1189, rfl⟩
abbrev main_v222 : Ref sig .tc := ⟨.hbm, 1190, rfl⟩
abbrev main_v223 : Ref sig .tc := ⟨.hbm, 1191, rfl⟩
abbrev main_cst_39 : Ref sig .tc := ⟨.hbm, 1192, rfl⟩
abbrev main_v224 : Ref sig .tc := ⟨.hbm, 1193, rfl⟩
abbrev main_v225 : Ref sig .tc := ⟨.hbm, 1194, rfl⟩
abbrev main_cst_40 : Ref sig .tc := ⟨.hbm, 1195, rfl⟩
abbrev main_v226 : Ref sig .tc := ⟨.hbm, 1196, rfl⟩
abbrev main_v227 : Ref sig .tc := ⟨.hbm, 1197, rfl⟩
abbrev main_cst_41 : Ref sig .tc := ⟨.hbm, 1198, rfl⟩
abbrev main_v228 : Ref sig .tc := ⟨.hbm, 1199, rfl⟩
abbrev main_v229 : Ref sig .tc := ⟨.hbm, 1200, rfl⟩
abbrev main_v230 : Ref sig .tc := ⟨.hbm, 1201, rfl⟩
abbrev main_cst_42 : Ref sig .tc := ⟨.hbm, 1202, rfl⟩
abbrev main_v231 : Ref sig .tc := ⟨.hbm, 1203, rfl⟩
abbrev main_v232 : Ref sig .tc := ⟨.hbm, 1204, rfl⟩
abbrev main_cst_43 : Ref sig .tc := ⟨.hbm, 1205, rfl⟩
abbrev main_v233 : Ref sig .tc := ⟨.hbm, 1206, rfl⟩
abbrev main_v234 : Ref sig .tc := ⟨.hbm, 1207, rfl⟩
abbrev main_v235 : Ref sig .tc := ⟨.hbm, 1208, rfl⟩
abbrev main_cst_44 : Ref sig .tc := ⟨.hbm, 1209, rfl⟩
abbrev main_v236 : Ref sig .tc := ⟨.hbm, 1210, rfl⟩
abbrev main_v237 : Ref sig .tc := ⟨.hbm, 1211, rfl⟩
abbrev main_cst_45 : Ref sig .tc := ⟨.hbm, 1212, rfl⟩
abbrev main_v238 : Ref sig .tc := ⟨.hbm, 1213, rfl⟩
abbrev main_v239 : Ref sig .tc := ⟨.hbm, 1214, rfl⟩
abbrev main_v240 : Ref sig .tc := ⟨.hbm, 1215, rfl⟩
abbrev main_cst_46 : Ref sig .tc := ⟨.hbm, 1216, rfl⟩
abbrev main_v241 : Ref sig .tc := ⟨.hbm, 1217, rfl⟩
abbrev main_v242 : Ref sig .tc := ⟨.hbm, 1218, rfl⟩
abbrev main_cst_47 : Ref sig .tc := ⟨.hbm, 1219, rfl⟩
abbrev main_v243 : Ref sig .tc := ⟨.hbm, 1220, rfl⟩
abbrev main_v244 : Ref sig .tc := ⟨.hbm, 1221, rfl⟩
abbrev main_v245 : Ref sig .tc := ⟨.hbm, 1222, rfl⟩
abbrev main_cst_48 : Ref sig .tc := ⟨.hbm, 1223, rfl⟩
abbrev main_v246 : Ref sig .tc := ⟨.hbm, 1224, rfl⟩
abbrev main_v247 : Ref sig .tc := ⟨.hbm, 1225, rfl⟩
abbrev main_cst_49 : Ref sig .tc := ⟨.hbm, 1226, rfl⟩
abbrev main_v248 : Ref sig .tc := ⟨.hbm, 1227, rfl⟩
abbrev main_v249 : Ref sig .tc := ⟨.hbm, 1228, rfl⟩
abbrev main_v250 : Ref sig .tc := ⟨.hbm, 1229, rfl⟩
abbrev main_cst_50 : Ref sig .tc := ⟨.hbm, 1230, rfl⟩
abbrev main_v251 : Ref sig .tc := ⟨.hbm, 1231, rfl⟩
abbrev main_v252 : Ref sig .tc := ⟨.hbm, 1232, rfl⟩
abbrev main_cst_51 : Ref sig .tc := ⟨.hbm, 1233, rfl⟩
abbrev main_v253 : Ref sig .tc := ⟨.hbm, 1234, rfl⟩
abbrev main_v254 : Ref sig .tc := ⟨.hbm, 1235, rfl⟩
abbrev main_v255 : Ref sig .tc := ⟨.hbm, 1236, rfl⟩
abbrev main_cst_52 : Ref sig .tc := ⟨.hbm, 1237, rfl⟩
abbrev main_v256 : Ref sig .tc := ⟨.hbm, 1238, rfl⟩
abbrev main_v257 : Ref sig .tc := ⟨.hbm, 1239, rfl⟩
abbrev main_cst_53 : Ref sig .tc := ⟨.hbm, 1240, rfl⟩
abbrev main_v258 : Ref sig .tc := ⟨.hbm, 1241, rfl⟩
abbrev main_v259 : Ref sig .tc := ⟨.hbm, 1242, rfl⟩
abbrev main_v260 : Ref sig .tc := ⟨.hbm, 1243, rfl⟩
abbrev main_cst_54 : Ref sig .tc := ⟨.hbm, 1244, rfl⟩
abbrev main_v261 : Ref sig .tc := ⟨.hbm, 1245, rfl⟩
abbrev main_v262 : Ref sig .tc := ⟨.hbm, 1246, rfl⟩
abbrev main_v263 : Ref sig .tc := ⟨.hbm, 1247, rfl⟩
abbrev main_cst_55 : Ref sig .tc := ⟨.hbm, 1248, rfl⟩
abbrev main_v264 : Ref sig .tc := ⟨.hbm, 1249, rfl⟩
abbrev main_v265 : Ref sig .tc := ⟨.hbm, 1250, rfl⟩
abbrev main_cst_56 : Ref sig .tc := ⟨.hbm, 1251, rfl⟩
abbrev main_v266 : Ref sig .tc := ⟨.hbm, 1252, rfl⟩
abbrev main_v267 : Ref sig .tc := ⟨.hbm, 1253, rfl⟩
abbrev main_cst_57 : Ref sig .tc := ⟨.hbm, 1254, rfl⟩
abbrev main_v268 : Ref sig .tc := ⟨.hbm, 1255, rfl⟩
abbrev main_v269 : Ref sig .tc := ⟨.hbm, 1256, rfl⟩
abbrev main_v270 : Ref sig .tc := ⟨.hbm, 1257, rfl⟩
abbrev main_cst_58 : Ref sig .tc := ⟨.hbm, 1258, rfl⟩
abbrev main_v271 : Ref sig .tc := ⟨.hbm, 1259, rfl⟩
abbrev main_v272 : Ref sig .tc := ⟨.hbm, 1260, rfl⟩
abbrev main_v273 : Ref sig .tc := ⟨.hbm, 1261, rfl⟩
abbrev main_cst_59 : Ref sig .tc := ⟨.hbm, 1262, rfl⟩
abbrev main_v274 : Ref sig .tc := ⟨.hbm, 1263, rfl⟩
abbrev main_v275 : Ref sig .tc := ⟨.hbm, 1264, rfl⟩
abbrev main_v276 : Ref sig .tc := ⟨.hbm, 1265, rfl⟩
abbrev main_cst_60 : Ref sig .tc := ⟨.hbm, 1266, rfl⟩
abbrev main_v277 : Ref sig .tc := ⟨.hbm, 1267, rfl⟩
abbrev main_v278 : Ref sig .tc := ⟨.hbm, 1268, rfl⟩
abbrev main_v279 : Ref sig .tc := ⟨.hbm, 1269, rfl⟩
abbrev main_cst_61 : Ref sig .tc := ⟨.hbm, 1270, rfl⟩
abbrev main_v280 : Ref sig .tc := ⟨.hbm, 1271, rfl⟩
abbrev main_v281 : Ref sig .tc := ⟨.hbm, 1272, rfl⟩
abbrev main_v282 : Ref sig .tc := ⟨.hbm, 1273, rfl⟩
abbrev main_cst_62 : Ref sig .tc := ⟨.hbm, 1274, rfl⟩
abbrev main_v283 : Ref sig .tc := ⟨.hbm, 1275, rfl⟩
abbrev main_v284 : Ref sig .tc := ⟨.hbm, 1276, rfl⟩
abbrev main_v285 : Ref sig .tc := ⟨.hbm, 1277, rfl⟩
abbrev main_cst_63 : Ref sig .tc := ⟨.hbm, 1278, rfl⟩
abbrev main_v286 : Ref sig .tc := ⟨.hbm, 1279, rfl⟩
abbrev main_v287 : Ref sig .tc := ⟨.hbm, 1280, rfl⟩
abbrev main_v288 : Ref sig .tc := ⟨.hbm, 1281, rfl⟩
abbrev main_cst_64 : Ref sig .tc := ⟨.hbm, 1282, rfl⟩
abbrev main_v289 : Ref sig .tc := ⟨.hbm, 1283, rfl⟩
abbrev main_v290 : Ref sig .tc := ⟨.hbm, 1284, rfl⟩
abbrev main_v291 : Ref sig .tc := ⟨.hbm, 1285, rfl⟩
abbrev main_cst_65 : Ref sig .tc := ⟨.hbm, 1286, rfl⟩
abbrev main_v292 : Ref sig .tc := ⟨.hbm, 1287, rfl⟩
abbrev main_v293 : Ref sig .tc := ⟨.hbm, 1288, rfl⟩
abbrev main_v294 : Ref sig .tc := ⟨.hbm, 1289, rfl⟩
abbrev main_cst_66 : Ref sig .tc := ⟨.hbm, 1290, rfl⟩
abbrev main_v295 : Ref sig .tc := ⟨.hbm, 1291, rfl⟩
abbrev main_v296 : Ref sig .tc := ⟨.hbm, 1292, rfl⟩
abbrev main_v297 : Ref sig .tc := ⟨.hbm, 1293, rfl⟩
abbrev main_cst_67 : Ref sig .tc := ⟨.hbm, 1294, rfl⟩
abbrev main_v298 : Ref sig .tc := ⟨.hbm, 1295, rfl⟩
abbrev main_v299 : Ref sig .tc := ⟨.hbm, 1296, rfl⟩
abbrev main_v300 : Ref sig .tc := ⟨.hbm, 1297, rfl⟩
abbrev main_cst_68 : Ref sig .tc := ⟨.hbm, 1298, rfl⟩
abbrev main_v301 : Ref sig .tc := ⟨.hbm, 1299, rfl⟩
abbrev main_v302 : Ref sig .tc := ⟨.hbm, 1300, rfl⟩
abbrev main_v303 : Ref sig .tc := ⟨.hbm, 1301, rfl⟩
abbrev main_cst_69 : Ref sig .tc := ⟨.hbm, 1302, rfl⟩
abbrev main_v304 : Ref sig .tc := ⟨.hbm, 1303, rfl⟩
abbrev main_v305 : Ref sig .tc := ⟨.hbm, 1304, rfl⟩
abbrev main_v306 : Ref sig .tc := ⟨.hbm, 1305, rfl⟩
abbrev main_cst_70 : Ref sig .tc := ⟨.hbm, 1306, rfl⟩
abbrev main_v307 : Ref sig .tc := ⟨.hbm, 1307, rfl⟩
abbrev main_v308 : Ref sig .tc := ⟨.hbm, 1308, rfl⟩
abbrev main_v309 : Ref sig .tc := ⟨.hbm, 1309, rfl⟩
abbrev main_cst_71 : Ref sig .tc := ⟨.hbm, 1310, rfl⟩
abbrev main_v310 : Ref sig .tc := ⟨.hbm, 1311, rfl⟩
abbrev main_v311 : Ref sig .tc := ⟨.hbm, 1312, rfl⟩
abbrev main_v312 : Ref sig .tc := ⟨.hbm, 1313, rfl⟩
abbrev main_cst_72 : Ref sig .tc := ⟨.hbm, 1314, rfl⟩
abbrev main_v313 : Ref sig .tc := ⟨.hbm, 1315, rfl⟩
abbrev main_v314 : Ref sig .tc := ⟨.hbm, 1316, rfl⟩
abbrev main_cst_73 : Ref sig .tc := ⟨.hbm, 1317, rfl⟩
abbrev main_v315 : Ref sig .tc := ⟨.hbm, 1318, rfl⟩
abbrev main_v316 : Ref sig .tc := ⟨.hbm, 1319, rfl⟩
abbrev main_cst_74 : Ref sig .tc := ⟨.hbm, 1320, rfl⟩
abbrev main_v317 : Ref sig .tc := ⟨.hbm, 1321, rfl⟩
abbrev main_v318 : Ref sig .tc := ⟨.hbm, 1322, rfl⟩
abbrev main_v319 : Ref sig .tc := ⟨.hbm, 1323, rfl⟩
abbrev main_v320 : Ref sig .tc := ⟨.hbm, 1324, rfl⟩
abbrev main_v321 : Ref sig .tc := ⟨.hbm, 1325, rfl⟩
abbrev main_cst_75 : Ref sig .tc := ⟨.hbm, 1326, rfl⟩
abbrev main_v322 : Ref sig .tc := ⟨.hbm, 1327, rfl⟩
abbrev main_v323 : Ref sig .tc := ⟨.hbm, 1328, rfl⟩
abbrev main_v324 : Ref sig .tc := ⟨.hbm, 1329, rfl⟩
abbrev main_v325 : Ref sig .tc := ⟨.hbm, 1330, rfl⟩
abbrev main_v326 : Ref sig .tc := ⟨.hbm, 1331, rfl⟩
abbrev main_v327 : Ref sig .tc := ⟨.hbm, 1332, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

namespace Cert.Frames

open Idealize.ShloMosaic Idealize.SL.Sem

/-- The kernel, as compiled, terminates and leaves its arguments as they were. -/
theorem kernel : Cert.quiescent_Kernel := fun m ρ _ => Cert.Kernel.Gen.frame m ρ

/-- The kernel over the extended reals terminates and leaves its arguments as they were. -/
theorem kernelIdeal : Cert.quiescent_KernelIdeal := fun m ρ _ => Cert.KernelIdeal.Gen.frame m ρ

/-- The reference over the extended reals terminates and leaves its arguments as they were: its run, read at the
    arguments; it has no semaphores. -/
theorem referenceIdeal : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The kernel over the extended reals is the compiled kernel, operation for operation. -/
theorem preserves : Cert.preserves_Kernel_KernelIdeal := trivial

end Cert.Frames
-- ==== Proof.Words.lean ====
module

public import Idealize.ShloMosaic.Lib.Pointwise
public import Idealize.ShloMosaic.Lib.ValueIdx

@[expose] public section

set_option maxRecDepth 16384

noncomputable section

namespace Cert.Draw

open Idealize.ShloMosaic

/-- A word turned left by `r` bits, as the sum of two shifts (`s` is `32 - r`). -/
def turn (y r s : BitVec 32) : BitVec 32 := IntOp.ori (IntOp.shli .vector y r) (IntOp.shrui .vector y s)

/-- The two words inside the cipher, the left one with the right one already added to it. -/
structure Pair where
  sum : BitVec 32
  right : BitVec 32

/-- The right word mixed once: turned, and combined with the left one. -/
def Pair.mixed (q : Pair) (r s : BitVec 32) : BitVec 32 := IntOp.xori q.sum (turn q.right r s)

/-- One round: the right word mixed, and the new one added to the left one for the next round. -/
def Pair.round (q : Pair) (r s : BitVec 32) : Pair := ⟨IntOp.addi q.sum (q.mixed r s), q.mixed r s⟩

/-- The first three of four rounds by the first list of turns. -/
def Pair.three0 (q : Pair) : Pair := ((q.round 13#32 19#32).round 15#32 17#32).round 26#32 6#32

/-- The first three of four rounds by the second list of turns. -/
def Pair.three1 (q : Pair) : Pair := ((q.round 17#32 15#32).round 29#32 3#32).round 16#32 16#32

/-- The fourth round and the key added: the left word. -/
def Pair.leftOut (q : Pair) (k : BitVec 32) : BitVec 32 := IntOp.addi q.sum k

/-- The fourth round and the key added with the round's number: the right word. -/
def Pair.rightOut (q : Pair) (r s l n : BitVec 32) : BitVec 32 := IntOp.addi (IntOp.addi (q.mixed r s) l) n

/-- Two words and the sum that the next round starts from. -/
def Pair.start (x y : BitVec 32) : Pair := ⟨IntOp.addi x y, y⟩

/-- Four rounds by the first list of turns, then the keys `k` and `l + n`. -/
def Pair.four0 (q : Pair) (k l n : BitVec 32) : Pair :=
  .start (q.three0.leftOut k) (q.three0.rightOut 6#32 26#32 l n)

/-- Four rounds by the second list of turns, then the keys `k` and `l + n`. -/
def Pair.four1 (q : Pair) (k l n : BitVec 32) : Pair :=
  .start (q.three1.leftOut k) (q.three1.rightOut 24#32 8#32 l n)

/-- The third word of the key. -/
def third (a b : BitVec 32) : BitVec 32 := IntOp.xori (IntOp.xori a b) 466688986#32

/-- The state of the cipher before the last four rounds. -/
def before (a b c y : BitVec 32) : Pair :=
  ((((Pair.start a (IntOp.addi y b)).four0 b c 1#32).four1 c a 2#32).four0 a b 3#32).four1 b c 4#32

/-- The random word of the key `(a, b)` at the counter `y`: the two words of the cipher, combined. -/
def word (a b y : BitVec 32) : BitVec 32 :=
  IntOp.xori ((before a b (third a b) y).three0.leftOut (third a b)) ((before a b (third a b) y).three0.rightOut 6#32 26#32 a 5#32)

end Cert.Draw
-- ==== Proof.Model.lean ====
module

public import proofs.«01_k».proof.Proof.Words

@[expose] public section

noncomputable section

namespace Cert.Draw

open Idealize.ShloMosaic

/-- The float of `[1, 2)` whose fraction is the top 23 bits of the word `w`, as a word. -/
def mantissa (w : BitVec 32) : BitVec 32 := IntOp.ori (IntOp.shrui .vector w 9#32) 1065353216#32

/-- The word `w` as a number of `[0, 1)`. -/
def unit (w : BitVec 32) : EReal := Ideal.ofBits .f32 (mantissa w) - Ideal.ofBits .f32 0x3F800000#32

/-- The word `w` as a number spread from `low` over `width`, at least `low`. -/
def spread (low width : EReal) (w : BitVec 32) : EReal := max low (unit w * width + low)

/-- The logarithm of the exponential variable drawn from `w`: a Gumbel variable, negated. -/
def logExponential (w : BitVec 32) : EReal :=
  Ideal.log (Ideal.ofBits .f32 0x00000000#32 - Ideal.log (spread (Ideal.ofBits .f32 0x00800000#32) (Ideal.ofBits .f32 0x3F800000#32) w))

/-- The argument of the logarithm that the inverse error function is a polynomial of, with its sign changed. -/
def tailOf (x : EReal) : EReal :=
  Ideal.ofBits .f32 0x00000000#32 - Ideal.log1p (x * (Ideal.ofBits .f32 0x00000000#32 - x))

/-- A step of the polynomial: in the centre by the first coefficient, in the tail by the second. -/
def hornerStep (near : BitVec 1) (v p : EReal) (a b : BitVec 32) : EReal :=
  Scalar.select near (Ideal.ofBits .f32 a) (Ideal.ofBits .f32 b) + p * v

/-- The polynomial, all its steps. -/
def horner (near : BitVec 1) (v : EReal) : EReal :=
  hornerStep near v (hornerStep near v (hornerStep near v (hornerStep near v (hornerStep near v (hornerStep near v
    (hornerStep near v (hornerStep near v (Scalar.select near (Ideal.ofBits .f32 0x32F16588#32) (Ideal.ofBits .f32 0xB951F09B#32))
      0x34B84B36#32 0x38D3B56B#32) 0xB66C7357#32 0x3AB0DC72#32) 0xB6935AC1#32 0xBB70BDE7#32) 0x396532DB#32 0x3BBC127B#32)
      0xBAA45408#32 0xBBF9C5D7#32) 0xBB88E4EF#32 0x3C1AA57E#32) 0x3E7C8F63#32 0x3F8036DB#32) 0x3FC02E2F#32 0x40354F7E#32

/-- Whether `x` is in the centre. -/
def near (x : EReal) : BitVec 1 := Ideal.cmp .olt (tailOf x) (Ideal.ofBits .f32 0x40A00000#32)

/-- The inverse error function, by its two polynomials. -/
def erfInv (x : EReal) : EReal :=
  Scalar.select (Ideal.cmp .oeq (max x (-x)) (Ideal.ofBits .f32 0x3F800000#32)) (Ideal.ofBits .f32 0x7F800000#32 * x)
    (horner (near x) (Scalar.select (near x) (tailOf x - Ideal.ofBits .f32 0x40200000#32)
      (Ideal.sqrt (tailOf x) - Ideal.ofBits .f32 0x40400000#32)) * x)

/-- The normal variable drawn from the word `w`. -/
def normal (w : BitVec 32) : EReal :=
  Ideal.ofBits .f32 0x3FB504F3#32 * erfInv (spread (Ideal.ofBits .f32 0xBF7FFFFF#32) (Ideal.ofBits .f32 0x40000000#32) w)

/-- The first place of the largest of four scores. -/
def pick (s : Fin 4 → EReal) : BitVec 32 :=
  if s 0 = max (max (s 0) (s 1)) (max (s 2) (s 3)) then 0#32
  else if s 1 = max (max (s 0) (s 1)) (max (s 2) (s 3)) then 1#32
  else if s 2 = max (max (s 0) (s 1)) (max (s 2) (s 3)) then 2#32 else 3#32

/-- The one of four values that `z` names. -/
def choose (z : BitVec 32) (r : Fin 4 → EReal) : EReal :=
  Scalar.select (IntOp.cmpi .eq z 0#32) (r 0)
    (Scalar.select (IntOp.cmpi .eq z 1#32) (r 1) (Scalar.select (IntOp.cmpi .eq z 2#32) (r 2) (r 3)))

/-- The random word of the first draw for particle `p` and direction `j`. -/
def word1 (p : Nat) (j : Nat) : BitVec 32 := word 1832780943#32 270669613#32 (BitVec.ofNat 32 (4 * p + j))

/-- The random word of the second draw for particle `p` and direction `j`. -/
def word2 (p : Nat) (j : Nat) : BitVec 32 := word 64467757#32 2916123636#32 (BitVec.ofNat 32 (4 * p + j))

/-- The random word of the velocity's draw for particle `p` and coordinate `i`. -/
def word3 (p : Nat) (i : Nat) : BitVec 32 := word 2465931498#32 255383827#32 (BitVec.ofNat 32 (2 * p + i))

/-- One unit of the hidden layer before its squashing. -/
def hidden (d : Fin 2 → EReal) (w : Fin 4 → Fin 2 → EReal) (b : Fin 4 → EReal) (k : Fin 4) : EReal :=
  d 0 * w k 0 + d 1 * w k 1 + b k

/-- The squashing `v / (1 + |v|)`. -/
def squash (v : EReal) : EReal := Ideal.div v (Ideal.ofBits .f32 0x3F800000#32 + max v (-v))

/-- One output of the second layer. -/
def output (h : Fin 4 → EReal) (w : Fin 4 → Fin 4 → EReal) (b : Fin 4 → EReal) (j : Fin 4) : EReal :=
  h 0 * w j 0 + h 1 * w j 1 + h 2 * w j 2 + h 3 * w j 3 + b j

/-- The largest of four. -/
def top (r : Fin 4 → EReal) : EReal := max (max (r 0) (r 1)) (max (r 2) (r 3))

/-- The logarithm of the softmax of four outputs. -/
def logSoftmax (r : Fin 4 → EReal) (j : Fin 4) : EReal :=
  r j - (Ideal.log (Ideal.exp (r 0 - top r) + Ideal.exp (r 1 - top r) + Ideal.exp (r 2 - top r) + Ideal.exp (r 3 - top r)) + top r)

/-- The log-probabilities of the four directions. -/
def logits (d : Fin 2 → EReal) (w1 : Fin 4 → Fin 2 → EReal) (b1 : Fin 4 → EReal) (w2 : Fin 4 → Fin 4 → EReal)
    (b2 : Fin 4 → EReal) : Fin 4 → EReal :=
  logSoftmax (output (fun k => squash (hidden d w1 b1 k)) w2 b2)

/-- The direction drawn first, from the log-probabilities `l`. -/
def direction1 (l : Fin 4 → EReal) (p : Nat) : BitVec 32 := pick fun j => l j - logExponential (word1 p j)

/-- The direction drawn second, from the row of the transition matrix `T` that the first one names. -/
def direction2 (l : Fin 4 → EReal) (T : Fin 4 → Fin 4 → EReal) (p : Nat) : BitVec 32 :=
  pick fun j => Ideal.log (choose (direction1 l p) fun k => T k j) - logExponential (word2 p j)

/-- A particle's new position, given its direction `z`. -/
def moved (z : BitVec 32) (L : Fin 4 → Fin 2 → EReal) (C : Fin 4 → Fin 2 → Fin 2 → EReal) (x : Fin 2 → EReal) (p : Nat)
    (i : Fin 2) : EReal :=
  x i + if i = 0 then choose z (fun k => L k 0) + Ideal.exp (choose z fun k => C k 0 0) * normal (word3 p 0)
    else choose z (fun k => L k 1) + (choose z (fun k => C k 1 0) * normal (word3 p 0) + Ideal.exp (choose z fun k => C k 1 1) * normal (word3 p 1))

end Cert.Draw
-- ==== Proof.KernelScores.lean ====
module

public import proofs.«01_k».proof.Proof.Gen.KernelIdeal.Frame
public import proofs.«01_k».proof.Proof.Model
public import Idealize.ShloMosaic.Lib.WholeRead

@[expose] public section

set_option maxRecDepth 16384

noncomputable section

namespace Cert.KernelIdeal.Block

open Idealize.ShloMosaic Cert.KernelIdeal.Gen Cert.Draw

/-- The one entry that a read of one word of a vector starts at. -/
theorem at_one {n : Nat} (a : Nat) (ha : a < n)
    (inb : ∀ k, (![a] : Fin 1 → Nat) k + (![1] : Fin 1 → Nat) k ≤ (⟨1, ![n]⟩ : Shape).size k) (hp) :
    (Rect.unit (s := ⟨1, ![n]⟩) ![a] ![1] inb).idx (Shape.Idx.first hp) = ix1 ⟨a, ha⟩ := by
  funext k
  match k with
  | 0 => exact Fin.ext (by simp [Rect.unit, Shape.Idx.first])

/-- The one entry that a read of one word of a matrix starts at. -/
theorem at_two {n p : Nat} (a b : Nat) (ha : a < n) (hb : b < p)
    (inb : ∀ k, (![a, b] : Fin 2 → Nat) k + (![1, 1] : Fin 2 → Nat) k ≤ (⟨2, ![n, p]⟩ : Shape).size k) (hp) :
    (Rect.unit (s := ⟨2, ![n, p]⟩) ![a, b] ![1, 1] inb).idx (Shape.Idx.first hp) = ix2 ⟨a, ha⟩ ⟨b, hb⟩ := by
  funext k
  match k with
  | 0 => exact Fin.ext (by simp [Rect.unit, Shape.Idx.first])
  | 1 => exact Fin.ext (by simp [Rect.unit, Shape.Idx.first])

/-- The log-probabilities from the five small arrays. -/
def scores (x0 : Vec Ideal S2 .f32) (x1 : Vec Ideal S4x2 .f32) (x2 : Vec Ideal S4 .f32) (x3 : Vec Ideal S4x4 .f32)
    (x4 : Vec Ideal S4 .f32) : Fin 4 → EReal :=
  logits (fun i => x0 (ix1 i)) (fun k i => x1 (ix2 k i)) (fun k => x2 (ix1 k)) (fun j k => x3 (ix2 j k)) (fun j => x4 (ix1 j))

variable (c : Dev nD) (arg1 : Memref sig .tc .smem S2 .f32) (harg1 : arg1.IsWhole) (arg2 : Memref sig .tc .smem S4x2 .f32)
  (harg2 : arg2.IsWhole) (arg3 : Memref sig .tc .smem S4 .f32) (harg3 : arg3.IsWhole) (arg4 : Memref sig .tc .smem S4x4 .f32)
  (harg4 : arg4.IsWhole) (arg5 : Memref sig .tc .smem S4 .f32) (harg5 : arg5.IsWhole)
  (x0 : Vec Ideal S2 .f32) (x1 : Vec Ideal S4x2 .f32) (x2 : Vec Ideal S4 .f32) (x3 : Vec Ideal S4x4 .f32) (x4 : Vec Ideal S4 .f32)

/-- The hidden layer before its squashing. -/
def deep : Fin 4 → EReal := hidden (fun i => x0 (ix1 i)) (fun k i => x1 (ix2 k i)) (fun k => x2 (ix1 k))

/-- The first hidden unit. -/
theorem unit0 : kernelRun0_A.sl.r_13 (F := Ideal) c arg1 harg1 arg2 harg2 arg3 harg3 x0 x1 x2 = deep x0 x1 x2 0 := by
  simp only [kernelRun0_A.sl.r_13, kernelRun0_A.sl.r, kernelRun0_A.sl.r_1, kernelRun0_A.sl.r_2, kernelRun0_A.sl.r_3,
    kernelRun0_A.sl.r_4, Memref.IsWhole.readAt_unread, at_one, at_two, Nat.reduceLT]
  rfl

/-- The second hidden unit. -/
theorem unit1 : kernelRun0_A.sl.r_14 (F := Ideal) c arg1 harg1 arg2 harg2 arg3 harg3 x0 x1 x2 = deep x0 x1 x2 1 := by
  simp only [kernelRun0_A.sl.r_14, kernelRun0_A.sl.r, kernelRun0_A.sl.r_1, kernelRun0_A.sl.r_5, kernelRun0_A.sl.r_6,
    kernelRun0_A.sl.r_7, Memref.IsWhole.readAt_unread, at_one, at_two, Nat.reduceLT]
  rfl

/-- The third hidden unit. -/
theorem unit2 : kernelRun0_A.sl.r_15 (F := Ideal) c arg1 harg1 arg2 harg2 arg3 harg3 x0 x1 x2 = deep x0 x1 x2 2 := by
  simp only [kernelRun0_A.sl.r_15, kernelRun0_A.sl.r, kernelRun0_A.sl.r_1, kernelRun0_A.sl.r_8, kernelRun0_A.sl.r_9,
    kernelRun0_A.sl.r_10, Memref.IsWhole.readAt_unread, at_one, at_two, Nat.reduceLT]
  rfl

/-- The fourth hidden unit, squashed. -/
theorem unit3 : kernelRun0_A.sl.r_25 (F := Ideal) c arg1 harg1 arg2 harg2 arg3 harg3 x0 x1 x2 = squash (deep x0 x1 x2 3) := by
  simp only [kernelRun0_A.sl.r_25, kernelRun0_A.sl.r_11, kernelRun0_A.sl.r_12, kernelRun0_A.sl.r, kernelRun0_A.sl.r_1,
    kernelRun0_A.sl.r_16, kernelRun0_A.sl.r_17, kernelRun0_A.sl.r_18, Memref.IsWhole.readAt_unread, at_one, at_two, Nat.reduceLT]
  rfl

/-- The four outputs of the second layer, and the log-probabilities they give, from the hidden units. -/
theorem second (n : Fin 4) :
    ![kernelRun0_A.sl.r_47 (F := Ideal) c arg1 harg1 arg2 harg2 arg3 harg3 arg4 harg4 arg5 harg5 x0 x1 x2 x3 x4,
      kernelRun0_A.sl.r_48 (F := Ideal) c arg1 harg1 arg2 harg2 arg3 harg3 arg4 harg4 arg5 harg5 x0 x1 x2 x3 x4,
      kernelRun0_A.sl.r_49 (F := Ideal) c arg1 harg1 arg2 harg2 arg3 harg3 arg4 harg4 arg5 harg5 x0 x1 x2 x3 x4,
      kernelRun0_A.sl.r_50 (F := Ideal) c arg1 harg1 arg2 harg2 arg3 harg3 arg4 harg4 arg5 harg5 x0 x1 x2 x3 x4] n
      = scores x0 x1 x2 x3 x4 n := by
  simp only [kernelRun0_A.sl.r_47, kernelRun0_A.sl.r_48, kernelRun0_A.sl.r_49, kernelRun0_A.sl.r_50,
    unit0, unit1, unit2, unit3, kernelRun0_A.sl.r_19, kernelRun0_A.sl.r_20, kernelRun0_A.sl.r_21, kernelRun0_A.sl.r_22, kernelRun0_A.sl.r_23, kernelRun0_A.sl.r_24, kernelRun0_A.sl.r_26, kernelRun0_A.sl.r_27,
    kernelRun0_A.sl.r_28, kernelRun0_A.sl.r_29, kernelRun0_A.sl.r_30, kernelRun0_A.sl.r_31, kernelRun0_A.sl.r_32,
    kernelRun0_A.sl.r_33, kernelRun0_A.sl.r_34, kernelRun0_A.sl.r_35, kernelRun0_A.sl.r_36, kernelRun0_A.sl.r_37,
    kernelRun0_A.sl.r_38, kernelRun0_A.sl.r_39, kernelRun0_A.sl.r_40, kernelRun0_A.sl.r_41, kernelRun0_A.sl.r_42,
    kernelRun0_A.sl.r_43, kernelRun0_A.sl.r_44, kernelRun0_A.sl.r_45, kernelRun0_A.sl.r_46,
    Memref.IsWhole.readAt_unread, at_one, at_two, Nat.reduceLT]
  match n with
  | 0 => rfl
  | 1 => rfl
  | 2 => rfl
  | 3 => rfl

end Cert.KernelIdeal.Block
-- ==== Proof.KernelWords.lean ====
module

public import proofs.«01_k».proof.Proof.Gen.KernelIdeal.Skeleton
public import proofs.«01_k».proof.Proof.Model

@[expose] public section

set_option maxRecDepth 16384

noncomputable section

namespace Cert.Draw

open Idealize.ShloMosaic Cert.KernelIdeal Cert.KernelIdeal.Gen

/-- The first key word of each of the eight rows. -/
def key1 (v : IVec S8x8192 32) (j : S8x8192.Idx) : BitVec 32 := k0_pay23 v j

/-- The second key word of each of the eight rows. -/
def key2 (v : IVec S8x8192 32) (j : S8x8192.Idx) : BitVec 32 := k0_pay24 v j

/-- The counter of the eight rows, from the block's first particle and the row numbers `v`. -/
def cnt8 (v0 : BitVec 32) (v : IVec S8x8192 32) (j : S8x8192.Idx) : BitVec 32 :=
  IntOp.addi (IntOp.muli 4#32 (IntOp.addi v0 (iota .tc S8x8192 32 [1] iota_S8x8192_d1_w32 j))) (IntOp.andi (v j) 3#32)

/-- The first three rounds of the eight rows. -/
theorem first_rounds (v0 : BitVec 32) (v : IVec S8x8192 32) (j : S8x8192.Idx) :
    (⟨k0_pay33 v0 v j, k0_pay32 v0 v j⟩ : Pair) = (Pair.start (key1 v j) (IntOp.addi (cnt8 v0 v j) (key2 v j))).three0 := rfl

/-- The fourth round, the next four, and one more. -/
theorem next_rounds (a b c y s : IVec S8x8192 32) (j : S8x8192.Idx) :
    (⟨k0_pay46 a b c y s (shli y (broadcast S8x8192 6#32)) 26#32 j, k0_pay45 a b c y s (shli y (broadcast S8x8192 6#32)) 26#32 j⟩ : Pair) =
      ((Pair.start ((Pair.mk (s j) (y j)).leftOut (b j)) ((Pair.mk (s j) (y j)).rightOut 6#32 26#32 (c j) 1#32)).four1 (c j) (a j) 2#32).round 13#32 19#32 := rfl

/-- Rounds ten to fifteen. -/
theorem later_rounds (a b y s : IVec S8x8192 32) (j : S8x8192.Idx) :
    (⟨k0_pay58 a b y s j, k0_pay57 a b y s j⟩ : Pair) =
      (Pair.start ((((Pair.mk (s j) (y j)).round 15#32 17#32).round 26#32 6#32).leftOut (a j)) ((((Pair.mk (s j) (y j)).round 15#32 17#32).round 26#32 6#32).rightOut 6#32 26#32 (b j) 3#32)).three1 := rfl

/-- The last rounds, to the fraction of the float. -/
theorem last_rounds (a b c y s : IVec S8x8192 32) (j : S8x8192.Idx) :
    k0_pay59 a b c y s 24#32 j = mantissa
      (IntOp.xori ((Pair.start ((Pair.mk (s j) (y j)).leftOut (b j)) ((Pair.mk (s j) (y j)).rightOut 24#32 8#32 (c j) 4#32)).three0.leftOut (c j))
         ((Pair.start ((Pair.mk (s j) (y j)).leftOut (b j)) ((Pair.mk (s j) (y j)).rightOut 24#32 8#32 (c j) 4#32)).three0.rightOut 6#32 26#32 (a j) 5#32)) := rfl

/-- What the eight rows' cipher gives at an index: the fraction of the random word of the row's key. -/
theorem eight_at (v0 : BitVec 32) (v : IVec S8x8192 32) (j : S8x8192.Idx) :
    k0_pay59 (k0_pay23 v) (k0_pay24 v) (k0_pay25 v)
      (k0_pay57 (k0_pay23 v) (k0_pay24 v)
        (k0_pay45 (k0_pay23 v) (k0_pay24 v) (k0_pay25 v) (k0_pay32 v0 v) (k0_pay33 v0 v) (k0_pay34 v0 v) 26#32)
        (k0_pay46 (k0_pay23 v) (k0_pay24 v) (k0_pay25 v) (k0_pay32 v0 v) (k0_pay33 v0 v) (k0_pay34 v0 v) 26#32))
      (k0_pay58 (k0_pay23 v) (k0_pay24 v)
        (k0_pay45 (k0_pay23 v) (k0_pay24 v) (k0_pay25 v) (k0_pay32 v0 v) (k0_pay33 v0 v) (k0_pay34 v0 v) 26#32)
        (k0_pay46 (k0_pay23 v) (k0_pay24 v) (k0_pay25 v) (k0_pay32 v0 v) (k0_pay33 v0 v) (k0_pay34 v0 v) 26#32)) 24#32 j
      = mantissa (word (key1 v j) (key2 v j) (cnt8 v0 v j)) := by
  have h34 : k0_pay34 v0 v = shli (k0_pay32 v0 v) (broadcast S8x8192 6#32) := rfl
  rw [last_rounds, later_rounds, h34, next_rounds, first_rounds]
  rfl

/-- The counter of the two rows of the velocity's draw. -/
def cnt2 (v0 : BitVec 32) (j : S2x8192.Idx) : BitVec 32 :=
  IntOp.addi (IntOp.muli 2#32 (IntOp.addi v0 (iota .tc S2x8192 32 [1] iota_S2x8192_d1_w32 j))) (iota .tc S2x8192 32 [0] iota_S2x8192_d0_w32 j)

/-- The array whose words are `y`'s turned left by 26 bits. -/
def turned (y : IVec S2x8192 32) : IVec S2x8192 32 := ori (shli y (broadcast S2x8192 26#32)) (shrui y (broadcast S2x8192 6#32))

/-- Two rounds of the first list of turns. -/
def Pair.two0 (q : Pair) : Pair := (q.round 13#32 19#32).round 15#32 17#32

/-- The first two rounds of the two rows. -/
theorem two_first (v0 : BitVec 32) (j : S2x8192.Idx) :
    (⟨k0_pay68 v0 j, k0_pay67 v0 j⟩ : Pair) = (Pair.start 2465931498#32 (IntOp.addi (cnt2 v0 j) 255383827#32)).two0 := rfl

/-- The next two rounds and the three of the second list after them, with the fourth mixed. -/
theorem two_next (y s : IVec S2x8192 32) (j : S2x8192.Idx) (q : Pair) (h : (⟨s j, y j⟩ : Pair) = q.two0) :
    (⟨k0_pay81 s (turned y) j, k0_pay80 s (turned y) j⟩ : Pair) =
      ⟨(q.four0 255383827#32 2249384483#32 1#32).three1.leftOut 2249384483#32,
        (q.four0 255383827#32 2249384483#32 1#32).three1.mixed 24#32 8#32⟩ := by
  have e : (⟨k0_pay81 s (turned y) j, k0_pay80 s (turned y) j⟩ : Pair) =
      ⟨(Pair.start (((Pair.mk (s j) (y j)).round 26#32 6#32).leftOut 255383827#32)
        (((Pair.mk (s j) (y j)).round 26#32 6#32).rightOut 6#32 26#32 2249384483#32 1#32)).three1.leftOut 2249384483#32,
       (Pair.start (((Pair.mk (s j) (y j)).round 26#32 6#32).leftOut 255383827#32)
        (((Pair.mk (s j) (y j)).round 26#32 6#32).rightOut 6#32 26#32 2249384483#32 1#32)).three1.mixed 24#32 8#32⟩ := rfl
  rw [e, h, Pair.four0, Pair.three0, Pair.two0]

/-- The third group of four rounds, and the first of the fourth. -/
theorem two_later (y s : IVec S2x8192 32) (j : S2x8192.Idx) (q : Pair)
    (h : (⟨s j, y j⟩ : Pair) = ⟨q.three1.leftOut 2249384483#32, q.three1.mixed 24#32 8#32⟩) :
    (⟨k0_pay94 y s k0_pay82 j, k0_pay93 y s k0_pay82 j⟩ : Pair) =
      ((q.four1 2249384483#32 2465931498#32 2#32).four0 2465931498#32 255383827#32 3#32).round 17#32 15#32 := by
  have e : (⟨k0_pay94 y s k0_pay82 j, k0_pay93 y s k0_pay82 j⟩ : Pair) =
      ((Pair.start (s j) (IntOp.addi (IntOp.addi (y j) 2465931498#32) 2#32)).four0 2465931498#32 255383827#32 3#32).round 17#32 15#32 := rfl
  rw [e, (Pair.mk.inj h).1, (Pair.mk.inj h).2, Pair.four1, Pair.rightOut]

/-- The rest of the fourth group, and two rounds of the last. -/
theorem two_close (y s : IVec S2x8192 32) (j : S2x8192.Idx) (q : Pair) (h : (⟨s j, y j⟩ : Pair) = q.round 17#32 15#32) :
    (⟨k0_pay104 y s 29#32 j, k0_pay103 y s 29#32 j⟩ : Pair) = (q.four1 255383827#32 2249384483#32 4#32).two0 := by
  have e : (⟨k0_pay104 y s 29#32 j, k0_pay103 y s 29#32 j⟩ : Pair) =
      (Pair.start ((((Pair.mk (s j) (y j)).round 29#32 3#32).round 16#32 16#32).leftOut 255383827#32)
        ((((Pair.mk (s j) (y j)).round 29#32 3#32).round 16#32 16#32).rightOut 24#32 8#32 2249384483#32 4#32)).two0 := rfl
  rw [e, h, Pair.four1, Pair.three1]

/-- The fraction of the float of each word, as an array. -/
def fractions (s t : IVec S2x8192 32) : IVec S2x8192 32 :=
  ori (shrui (xori (addi (addi s (xori s t)) (broadcast S2x8192 2249384483#32))
    (addi (addi (xori (addi s (xori s t)) (ori (shli (xori s t) (broadcast S2x8192 6#32)) (shrui (xori s t) (broadcast S2x8192 26#32))))
      (broadcast S2x8192 2465931498#32)) (broadcast S2x8192 5#32))) (broadcast S2x8192 9#32)) (broadcast S2x8192 1065353216#32)

/-- The last two rounds, to the fraction of the float. -/
theorem fractions_at (y s : IVec S2x8192 32) (j : S2x8192.Idx) :
    fractions s (turned y) j = mantissa (IntOp.xori (((Pair.mk (s j) (y j)).round 26#32 6#32).leftOut 2249384483#32)
      (((Pair.mk (s j) (y j)).round 26#32 6#32).rightOut 6#32 26#32 2465931498#32 5#32)) := rfl

/-- The spreading of an array of fractions, at an index. -/
theorem spread_at (w : IVec S2x8192 32) (j : S2x8192.Idx) (x : BitVec 32) (h : w j = mantissa x) :
    maximumf (F := Ideal) (broadcast S2x8192 (Scalar.ofBits .f32 0xBF7FFFFF#32))
      (addf (mulf (subf (bitcastToFloat .f32 w) (broadcast S2x8192 (Scalar.ofBits .f32 0x3F800000#32)))
        (broadcast S2x8192 (Scalar.ofBits .f32 0x40000000#32))) (broadcast S2x8192 (Scalar.ofBits .f32 0xBF7FFFFF#32))) j =
      spread (Ideal.ofBits .f32 0xBF7FFFFF#32) (Ideal.ofBits .f32 0x40000000#32) x := by
  unfold spread unit
  rw [← h]
  rfl

/-- The last two rounds, and the word spread over its interval. -/
theorem two_last (y s : IVec S2x8192 32) (j : S2x8192.Idx) (q : Pair) (h : (⟨s j, y j⟩ : Pair) = q.two0) :
    k0_pay106 (F := Ideal) s (turned y) j =
      spread (Ideal.ofBits .f32 0xBF7FFFFF#32) (Ideal.ofBits .f32 0x40000000#32)
        (IntOp.xori (q.three0.leftOut 2249384483#32) (q.three0.rightOut 6#32 26#32 2465931498#32 5#32)) := by
  have e : k0_pay106 (F := Ideal) s (turned y) = maximumf (F := Ideal) (broadcast S2x8192 (Scalar.ofBits .f32 0xBF7FFFFF#32))
      (addf (mulf (subf (bitcastToFloat .f32 (fractions s (turned y))) (broadcast S2x8192 (Scalar.ofBits .f32 0x3F800000#32)))
        (broadcast S2x8192 (Scalar.ofBits .f32 0x40000000#32))) (broadcast S2x8192 (Scalar.ofBits .f32 0xBF7FFFFF#32))) := rfl
  rw [e, spread_at _ _ _ (fractions_at _ _ _), h, Pair.three0, Pair.two0]

/-- What the two rows' cipher gives at an index: the random word of the velocity's key, spread. -/
theorem two_at (v0 : BitVec 32) (j : S2x8192.Idx) :
    k0_pay106 (F := Ideal)
      (k0_pay104 (k0_pay93 (k0_pay80 (k0_pay68 v0) (k0_pay69 v0)) (k0_pay81 (k0_pay68 v0) (k0_pay69 v0)) k0_pay82)
        (k0_pay94 (k0_pay80 (k0_pay68 v0) (k0_pay69 v0)) (k0_pay81 (k0_pay68 v0) (k0_pay69 v0)) k0_pay82) 29#32)
      (k0_pay105 (k0_pay93 (k0_pay80 (k0_pay68 v0) (k0_pay69 v0)) (k0_pay81 (k0_pay68 v0) (k0_pay69 v0)) k0_pay82)
        (k0_pay94 (k0_pay80 (k0_pay68 v0) (k0_pay69 v0)) (k0_pay81 (k0_pay68 v0) (k0_pay69 v0)) k0_pay82) 29#32) j
      = spread (Ideal.ofBits .f32 0xBF7FFFFF#32) (Ideal.ofBits .f32 0x40000000#32) (word 2465931498#32 255383827#32 (cnt2 v0 j)) := by
  have h69 : k0_pay69 v0 = turned (k0_pay67 v0) := rfl
  have h105 (y s : IVec S2x8192 32) : k0_pay105 y s 29#32 = turned (k0_pay103 y s 29#32) := rfl
  have h3 : third 2465931498#32 255383827#32 = 2249384483#32 := by decide
  rw [h105, h69, two_last _ _ _ _ (two_close _ _ _ _ (two_later _ _ _ _ (two_next _ _ _ _ (two_first v0 j)))), word, h3, before]

end Cert.Draw
-- ==== Proof.KernelDraws.lean ====
module

public import proofs.«01_k».proof.Proof.Gen.KernelIdeal.Frame
public import proofs.«01_k».proof.Proof.KernelWords

@[expose] public section

set_option maxRecDepth 16384

noncomputable section

namespace Cert.KernelIdeal.Block

open Idealize.ShloMosaic Cert.KernelIdeal.Gen Cert.Draw

/-- The counter of a row of the eight at a lane is the flat position of the draw. -/
theorem counter8 (t l r : Nat) :
    IntOp.addi (IntOp.muli 4#32 (IntOp.addi (IntOp.muli (BitVec.ofNat 32 t) 8192#32) (BitVec.ofNat 32 l)))
      (IntOp.andi (BitVec.ofNat 32 r) 3#32) = BitVec.ofNat 32 (4 * (8192 * t + l) + r % 4) := by
  have h : BitVec.ofNat 32 r &&& 3#32 = BitVec.ofNat 32 (r % 4) := by
    apply BitVec.eq_of_toNat_eq
    rw [BitVec.toNat_and, BitVec.toNat_ofNat, BitVec.toNat_ofNat, BitVec.toNat_ofNat, show 3 % 2 ^ 32 = 2 ^ 2 - 1 from rfl,
      Nat.and_two_pow_sub_one_eq_mod]
    omega
  show 4#32 * (BitVec.ofNat 32 t * 8192#32 + BitVec.ofNat 32 l) + (BitVec.ofNat 32 r &&& 3#32) = _
  rw [h]
  apply BitVec.eq_of_toNat_eq
  simp only [BitVec.toNat_add, BitVec.toNat_mul, BitVec.toNat_ofNat]
  omega

/-- The counter of one of the two rows at a lane is the flat position of the draw. -/
theorem counter2 (t l r : Nat) :
    IntOp.addi (IntOp.muli 2#32 (IntOp.addi (IntOp.muli (BitVec.ofNat 32 t) 8192#32) (BitVec.ofNat 32 l)))
      (BitVec.ofNat 32 r) = BitVec.ofNat 32 (2 * (8192 * t + l) + r) := by
  show 2#32 * (BitVec.ofNat 32 t * 8192#32 + BitVec.ofNat 32 l) + BitVec.ofNat 32 r = _
  apply BitVec.eq_of_toNat_eq
  simp only [BitVec.toNat_add, BitVec.toNat_mul, BitVec.toNat_ofNat]
  omega

/-- The eight rows' fractions at an index. -/
theorem eight (i : grid0.Coords) (j : S8x8192.Idx) :
    kernelRun0_A.sl.r_58 i j = mantissa (word (key1 (iota .tc S8x8192 32 [0] iota_S8x8192_d0_w32) j)
      (key2 (iota .tc S8x8192 32 [0] iota_S8x8192_d0_w32) j)
      (cnt8 (Scalar.muli (BitVec.ofNat 32 (i 0)) 8192#32) (iota .tc S8x8192 32 [0] iota_S8x8192_d0_w32) j)) := by
  unfold kernelRun0_A.sl.r_58 kernelRun0_A.sl.r_57 kernelRun0_A.sl.r_56 kernelRun0_A.sl.r_55 kernelRun0_A.sl.r_54
    kernelRun0_A.sl.r_53 kernelRun0_A.sl.r_52 kernelRun0_A.sl.r_51
  rw [eight_at]
  rfl

/-- The row and lane numbers, at an index. -/
theorem iota8 (r : Fin 8) (l : Fin 8192) :
    iota .tc S8x8192 32 [0] iota_S8x8192_d0_w32 (ix2 r l) = BitVec.ofNat 32 r.val ∧
      iota .tc S8x8192 32 [1] iota_S8x8192_d1_w32 (ix2 r l) = BitVec.ofNat 32 l.val := by
  constructor <;> pointwise

/-- The row and lane numbers of the two rows, at an index. -/
theorem iota2 (r : Fin 2) (l : Fin 8192) :
    iota .tc S2x8192 32 [0] iota_S2x8192_d0_w32 (ix2 r l) = BitVec.ofNat 32 r.val ∧
      iota .tc S2x8192 32 [1] iota_S2x8192_d1_w32 (ix2 r l) = BitVec.ofNat 32 l.val := by
  constructor <;> pointwise

/-- The words of the upper four rows are the first draw's. -/
theorem upper (i : grid0.Coords) (r : Fin 4) (l : Fin 8192) :
    kernelRun0_A.sl.r_58 i (ix2 (Fin.castLE (by decide) r : Fin 8) l) = mantissa (word1 (8192 * (i 0).val + l.val) r.val) := by
  rw [eight, word1]
  have e : cnt8 (Scalar.muli (BitVec.ofNat 32 (i 0)) 8192#32) (iota .tc S8x8192 32 [0] iota_S8x8192_d0_w32)
      (ix2 (Fin.castLE (by decide) r : Fin 8) l) = BitVec.ofNat 32 (4 * (8192 * (i 0).val + l.val) + r.val % 4) := by
    rw [cnt8, (iota8 _ _).1, (iota8 _ _).2]
    exact counter8 _ _ _
  rw [e, Nat.mod_eq_of_lt r.isLt]
  match r with
  | 0 => rfl
  | 1 => rfl
  | 2 => rfl
  | 3 => rfl

/-- The words of the lower four rows are the second draw's. -/
theorem lower (i : grid0.Coords) (r : Fin 4) (l : Fin 8192) :
    kernelRun0_A.sl.r_58 i (ix2 (Fin.natAdd 4 r : Fin 8) l) = mantissa (word2 (8192 * (i 0).val + l.val) r.val) := by
  rw [eight, word2]
  have e : cnt8 (Scalar.muli (BitVec.ofNat 32 (i 0)) 8192#32) (iota .tc S8x8192 32 [0] iota_S8x8192_d0_w32)
      (ix2 (Fin.natAdd 4 r : Fin 8) l) = BitVec.ofNat 32 (4 * (8192 * (i 0).val + l.val) + (4 + r.val) % 4) := by
    rw [cnt8, (iota8 _ _).1, (iota8 _ _).2]
    exact counter8 _ _ _
  rw [e, Nat.add_mod_left, Nat.mod_eq_of_lt r.isLt]
  match r with
  | 0 => rfl
  | 1 => rfl
  | 2 => rfl
  | 3 => rfl

/-- The logarithm of an exponential variable from a fraction. -/
theorem log_of (w : IVec S8x8192 32) (j : S8x8192.Idx) (x : BitVec 32) (h : w j = mantissa x) :
    Ideal.log (k0_pay60 (F := Ideal) w j) = logExponential x := by
  unfold logExponential spread unit
  rw [← h]
  rfl

/-- The first draw's logarithms, a row and a lane. -/
theorem first_logs (i : grid0.Coords) (r : Fin 4) (l : Fin 8192) :
    kernelRun0_A.sl.r_59 (F := Ideal) i (ix2 r l) = logExponential (word1 (8192 * (i 0).val + l.val) r.val) := by
  rw [← log_of _ _ _ (upper i r l)]
  unfold kernelRun0_A.sl.r_59
  pointwise [k0_pay61]
  rfl

/-- The second draw's logarithms, a row and a lane. -/
theorem second_logs (i : grid0.Coords) (r : Fin 4) (l : Fin 8192) :
    kernelRun0_A.sl.r_60 (F := Ideal) i (ix2 r l) = logExponential (word2 (8192 * (i 0).val + l.val) r.val) := by
  rw [← log_of _ _ _ (lower i r l)]
  unfold kernelRun0_A.sl.r_60
  pointwise [k0_pay62]
  rfl

/-- The word of the velocity's draw, spread, a row and a lane. -/
theorem spread2 (i : grid0.Coords) (r : Fin 2) (l : Fin 8192) :
    kernelRun0_A.sl.r_69 (F := Ideal) i (ix2 r l) = spread (Ideal.ofBits .f32 0xBF7FFFFF#32) (Ideal.ofBits .f32 0x40000000#32)
      (word3 (8192 * (i 0).val + l.val) r.val) := by
  unfold kernelRun0_A.sl.r_69 kernelRun0_A.sl.r_68 kernelRun0_A.sl.r_67 kernelRun0_A.sl.r_66 kernelRun0_A.sl.r_65
    kernelRun0_A.sl.r_64 kernelRun0_A.sl.r_63 kernelRun0_A.sl.r_62 kernelRun0_A.sl.r_61
  rw [two_at, word3]
  have e : cnt2 (kernelRun0_A.sl.v0 i) (ix2 r l) = BitVec.ofNat 32 (2 * (8192 * (i 0).val + l.val) + r.val) := by
    rw [cnt2, (iota2 _ _).1, (iota2 _ _).2]
    exact counter2 _ _ _
  rw [e]

/-- The polynomial of the inverse error function on an array, at an index. -/
theorem polynomial_at (n : IVec S2x8192 1) (v : FVec Ideal S2x8192 .f32) (j : S2x8192.Idx) :
    k0_pay110 (F := Ideal) n v (Scalar.ofBits .f32 0x32F16588#32) (Scalar.ofBits .f32 0xB951F09B#32) j = horner (n j) (v j) := rfl

/-- The normal variable from the polynomial's value, at an index. -/
theorem normal_at (x p : FVec Ideal S2x8192 .f32) (j : S2x8192.Idx) :
    k0_pay112 (F := Ideal) x p (k0_pay111 (F := Ideal) x) j = Ideal.ofBits .f32 0x3FB504F3#32 *
      Scalar.select (Ideal.cmp .oeq (max (x j) (-(x j))) (Ideal.ofBits .f32 0x3F800000#32)) (Ideal.ofBits .f32 0x7F800000#32 * x j) (p j * x j) := rfl

/-- The argument of the logarithm's polynomial, as an array. -/
def tails (x : FVec Ideal S2x8192 .f32) : FVec Ideal S2x8192 .f32 :=
  subf (broadcast S2x8192 (Scalar.ofBits .f32 0x00000000#32))
    (log1p (mulf x (subf (broadcast S2x8192 (Scalar.ofBits .f32 0x00000000#32)) x)))

/-- That array at an index. -/
theorem tails_at (x : FVec Ideal S2x8192 .f32) (j : S2x8192.Idx) : tails x j = tailOf (x j) := rfl

/-- The kernel computes that array from the spread words. -/
theorem tails_of (s t : IVec S2x8192 32) : k0_pay107 (F := Ideal) s t = tails (k0_pay106 (F := Ideal) s t) := rfl

/-- The comparison with the centre's bound, at an index. -/
theorem near_of (x : FVec Ideal S2x8192 .f32) (j : S2x8192.Idx) :
    cmpf .olt (tails x) (broadcast S2x8192 (Scalar.ofBits .f32 0x40A00000#32)) j = near (x j) := rfl

/-- The choice of the polynomial's argument, at an index. -/
theorem shifted_of (x : FVec Ideal S2x8192 .f32) (n : IVec S2x8192 1) (j : S2x8192.Idx) :
    select n (subf (tails x) (broadcast S2x8192 (Scalar.ofBits .f32 0x40200000#32)))
      (subf (sqrt (tails x)) (broadcast S2x8192 (Scalar.ofBits .f32 0x40400000#32))) j =
    Scalar.select (n j) (tailOf (x j) - Ideal.ofBits .f32 0x40200000#32) (Ideal.sqrt (tailOf (x j)) - Ideal.ofBits .f32 0x40400000#32) := rfl

/-- Whether the spread word is in the centre, at an index. -/
theorem near_at (s t : IVec S2x8192 32) (j : S2x8192.Idx) (x : FVec Ideal S2x8192 .f32) (h : k0_pay106 (F := Ideal) s t = x) :
    k0_pay108 (F := Ideal) s t j = near (x j) := by
  have e : k0_pay108 (F := Ideal) s t = cmpf .olt (k0_pay107 (F := Ideal) s t) (broadcast S2x8192 (Scalar.ofBits .f32 0x40A00000#32)) := rfl
  rw [e, tails_of, h, near_of]

/-- The argument of the polynomial, at an index. -/
theorem shifted_at (s t : IVec S2x8192 32) (j : S2x8192.Idx) (x : FVec Ideal S2x8192 .f32) (h : k0_pay106 (F := Ideal) s t = x) :
    k0_pay109 (F := Ideal) s t j = Scalar.select (near (x j)) (tailOf (x j) - Ideal.ofBits .f32 0x40200000#32)
      (Ideal.sqrt (tailOf (x j)) - Ideal.ofBits .f32 0x40400000#32) := by
  have e : k0_pay109 (F := Ideal) s t = select (k0_pay108 (F := Ideal) s t)
      (subf (k0_pay107 (F := Ideal) s t) (broadcast S2x8192 (Scalar.ofBits .f32 0x40200000#32)))
      (subf (sqrt (k0_pay107 (F := Ideal) s t)) (broadcast S2x8192 (Scalar.ofBits .f32 0x40400000#32))) := rfl
  rw [e, tails_of, h, shifted_of, near_at s t j x h]

/-- The normal variables, a row and a lane. -/
theorem normals (i : grid0.Coords) (r : Fin 2) (l : Fin 8192) :
    kernelRun0_A.sl.r_74 (F := Ideal) i (ix2 r l) = normal (word3 (8192 * (i 0).val + l.val) r.val) := by
  have e := spread2 i r l
  unfold kernelRun0_A.sl.r_74 kernelRun0_A.sl.r_73 kernelRun0_A.sl.r_72 kernelRun0_A.sl.r_71 kernelRun0_A.sl.r_70
    kernelRun0_A.sl.cst_161 kernelRun0_A.sl.cst_162
  rw [normal_at, polynomial_at, near_at _ _ _ _ rfl, shifted_at _ _ _ _ rfl]
  unfold kernelRun0_A.sl.r_69 at e ⊢
  rw [e]
  rfl

end Cert.KernelIdeal.Block
-- ==== Proof.KernelBlock.lean ====
module

public import proofs.«01_k».proof.Proof.KernelScores
public import proofs.«01_k».proof.Proof.KernelDraws
public import Idealize.ShloMosaic.Lib.VecWindow

@[expose] public section

set_option maxRecDepth 16384

noncomputable section

namespace Cert.KernelIdeal.Block

open Idealize.ShloMosaic Cert.KernelIdeal.Gen Cert.Draw

/-- The place of the first maximum of four rows, at a lane: the first direction. -/
theorem picked (s0 s1 s2 s3 : EReal) (g : FVec Ideal S4x8192 .f32) (l : Fin 8192) :
    k0_pay117 (F := Ideal) s0 s1 s2 s3 g (ix2 0 l) = pick fun j => ![s0, s1, s2, s3] j - g (ix2 j l) := by
  pointwise [k0_pay117]
  rfl

/-- The rows of the transition table of a lane. -/
def rows (x5 : Vec Ideal S8192x16 .f32) (l : Fin 8192) (k j : Fin 4) : EReal := x5 (ix2 l ⟨4 * k.val + j.val, by omega⟩)

/-- The locations of a lane. -/
def places (x6 : Vec Ideal S8192x8 .f32) (l : Fin 8192) (k : Fin 4) (i : Fin 2) : EReal := x6 (ix2 l ⟨2 * k.val + i.val, by omega⟩)

/-- The covariances of a lane. -/
def shapes (x7 : Vec Ideal S8192x16 .f32) (l : Fin 8192) (k : Fin 4) (i j : Fin 2) : EReal :=
  x7 (ix2 l ⟨4 * k.val + 2 * i.val + j.val, by omega⟩)

/-- The four probabilities of the row that the first direction names, at a lane. -/
theorem row_at (x5 : Vec Ideal S8192x16 .f32) (z : IVec S1x8192 32) (l : Fin 8192) (j : Fin 4) :
    ![k0_pay119 (F := Ideal) (k0_pay113 (F := Ideal) x5) z (k0_pay118 (F := Ideal) x5) (ix2 0 l),
      k0_pay120 (F := Ideal) (k0_pay113 (F := Ideal) x5) z (ix2 0 l), k0_pay121 (F := Ideal) (k0_pay113 (F := Ideal) x5) z (ix2 0 l),
      select (k0_pay126 z) (k0_pay122 (F := Ideal) (k0_pay113 (F := Ideal) x5)) (select (k0_pay127 z)
        (k0_pay123 (F := Ideal) (k0_pay113 (F := Ideal) x5)) (select (k0_pay128 z) (k0_pay124 (F := Ideal) (k0_pay113 (F := Ideal) x5))
          (k0_pay125 (F := Ideal) (k0_pay113 (F := Ideal) x5)))) (ix2 0 l)] j
      = choose (z (ix2 0 l)) fun k => rows x5 l k j := by
  pointwise [k0_pay119, k0_pay120, k0_pay121, k0_pay122, k0_pay123, k0_pay124, k0_pay125, k0_pay126, k0_pay127, k0_pay128, k0_pay113, k0_pay118]
  match j with
  | 0 => rfl
  | 1 => rfl
  | 2 => rfl
  | 3 => rfl

/-- The place of the first maximum of the second scores, at a lane. -/
theorem picked2 (g : FVec Ideal S4x8192 .f32) (a b d e0 e1 e2 e3 : FVec Ideal S1x8192 .f32) (c0 c1 c2 : IVec S1x8192 1) (l : Fin 8192) :
    k0_pay129 (F := Ideal) g a b d e0 e1 e2 e3 c0 c1 c2 (ix2 0 l) = pick fun j =>
      Ideal.log (![a (ix2 0 l), b (ix2 0 l), d (ix2 0 l), select c0 e0 (select c1 e1 (select c2 e2 e3)) (ix2 0 l)] j) - g (ix2 j l) := by
  pointwise [k0_pay129]
  rfl

/-- A particle's new position from the normal variables `n` and the direction `z`. -/
def shifted (z : BitVec 32) (L : Fin 4 → Fin 2 → EReal) (C : Fin 4 → Fin 2 → Fin 2 → EReal) (x : Fin 2 → EReal) (n : Fin 2 → EReal)
    (i : Fin 2) : EReal :=
  x i + if i = 0 then choose z (fun k => L k 0) + Ideal.exp (choose z fun k => C k 0 0) * n 0
    else choose z (fun k => L k 1) + (choose z (fun k => C k 1 0) * n 0 + Ideal.exp (choose z fun k => C k 1 1) * n 1)

/-- The new positions of a lane, from the direction's array and the normal variables. -/
theorem position (x6 : Vec Ideal S8192x8 .f32) (x7 : Vec Ideal S8192x16 .f32) (x8 : Vec Ideal S8192x2 .f32) (n : FVec Ideal S2x8192 .f32)
    (g : FVec Ideal S4x8192 .f32) (a b d e0 e1 e2 e3 : FVec Ideal S1x8192 .f32) (c0 c1 c2 : IVec S1x8192 1) (l : Fin 8192) (i : Fin 2) :
    k0_pay1 (F := Ideal) (k0_pay116 (F := Ideal) x8)
      (k0_pay138 (F := Ideal) (k0_pay129 (F := Ideal) g a b d e0 e1 e2 e3 c0 c1 c2) (k0_pay131 (F := Ideal) (k0_pay114 (F := Ideal) x6))
        (k0_pay132 (F := Ideal) (k0_pay114 (F := Ideal) x6)) (k0_pay133 (F := Ideal) (k0_pay114 (F := Ideal) x6))
        (k0_pay134 (F := Ideal) (k0_pay114 (F := Ideal) x6)) (k0_pay135 (F := Ideal) g a b d e0 e1 e2 e3 c0 c1 c2)
        (k0_pay136 (F := Ideal) g a b d e0 e1 e2 e3 c0 c1 c2) k0_pay137)
      (k0_pay140 (F := Ideal) n (k0_pay115 (F := Ideal) x7) (k0_pay129 (F := Ideal) g a b d e0 e1 e2 e3 c0 c1 c2)
        (k0_pay130 (F := Ideal) g (k0_pay114 (F := Ideal) x6) a b d e0 e1 e2 e3 c0 c1 c2))
      (k0_pay141 (F := Ideal) n (k0_pay115 (F := Ideal) x7) (k0_pay129 (F := Ideal) g a b d e0 e1 e2 e3 c0 c1 c2))
      (k0_pay142 (F := Ideal) n (k0_pay115 (F := Ideal) x7) (k0_pay129 (F := Ideal) g a b d e0 e1 e2 e3 c0 c1 c2)) (ix2 l i)
    = shifted (k0_pay129 (F := Ideal) g a b d e0 e1 e2 e3 c0 c1 c2 (ix2 0 l)) (places x6 l) (shapes x7 l) (fun i => x8 (ix2 l i))
        (fun i => n (ix2 i l)) i := by
  unfold k0_pay135 k0_pay136 k0_pay130
  generalize k0_pay129 (F := Ideal) g a b d e0 e1 e2 e3 c0 c1 c2 = z
  match i with
  | 0 =>
    pointwise [k0_pay1, k0_pay116, k0_pay138, k0_pay131, k0_pay132, k0_pay133, k0_pay134, k0_pay137, k0_pay140, k0_pay115, k0_pay114,
      k0_pay141, k0_pay142, k0_pay139]
    rfl
  | 1 =>
    pointwise [k0_pay1, k0_pay116, k0_pay138, k0_pay131, k0_pay132, k0_pay133, k0_pay134, k0_pay137, k0_pay140, k0_pay115, k0_pay114,
      k0_pay141, k0_pay142, k0_pay139]
    rfl

variable (c : Dev nD) (i : grid0.Coords) (arg1 : Memref sig .tc .smem S2 .f32) (harg1 : arg1.IsWhole) (arg2 : Memref sig .tc .smem S4x2 .f32)
  (harg2 : arg2.IsWhole) (arg3 : Memref sig .tc .smem S4 .f32) (harg3 : arg3.IsWhole) (arg4 : Memref sig .tc .smem S4x4 .f32)
  (harg4 : arg4.IsWhole) (arg5 : Memref sig .tc .smem S4 .f32) (harg5 : arg5.IsWhole)
  (arg6 : Memref sig .tc .vmem S8192x16 .f32) (harg6 : arg6.IsWhole) (arg7 : Memref sig .tc .vmem S8192x8 .f32) (harg7 : arg7.IsWhole)
  (arg8 : Memref sig .tc .vmem S8192x16 .f32) (harg8 : arg8.IsWhole) (arg9 : Memref sig .tc .vmem S8192x2 .f32) (harg9 : arg9.IsWhole)
  (arg10 : Memref sig .tc .vmem S8192x2 .f32) (harg10 : arg10.IsWhole) (arg11 : Memref sig .tc .vmem S1x8192 .i32) (harg11 : arg11.IsWhole)
  (x0 : Vec Ideal S2 .f32) (x1 : Vec Ideal S4x2 .f32) (x2 : Vec Ideal S4 .f32) (x3 : Vec Ideal S4x4 .f32) (x4 : Vec Ideal S4 .f32)
  (x5 : Vec Ideal S8192x16 .f32) (x6 : Vec Ideal S8192x8 .f32) (x7 : Vec Ideal S8192x16 .f32) (x8 : Vec Ideal S8192x2 .f32)

/-- The first direction of a lane. -/
theorem first (l : Fin 8192) :
    kernelRun0_A.sl.r_79 (F := Ideal) c i arg1 harg1 arg2 harg2 arg3 harg3 arg4 harg4 arg5 harg5 x0 x1 x2 x3 x4 (ix2 0 l)
      = direction1 (scores x0 x1 x2 x3 x4) (8192 * (i 0).val + l.val) := by
  unfold kernelRun0_A.sl.r_79
  rw [picked, direction1]
  congr 1
  funext j
  rw [second, first_logs]

/-- A load of a whole block gives the block. -/
theorem whole (S : Shape) (arg : Memref sig .tc .vmem S .f32) (harg : arg.IsWhole) (x : Vec Ideal S .f32) (off : Fin S.rank → Nat)
    (hoff : off = fun _ => 0) (inb : ∀ k, off k + S.size k ≤ S.size k) :
    View.readAt (Elt Ideal) arg.view (Rect.unit off S.size inb).toLoadRect (harg.unread x) = x := by
  subst hoff
  funext y
  rw [Memref.IsWhole.readAt_unread]
  congr 1
  funext k
  exact Fin.ext (by simp [Rect.unit])

/-- The offsets of a whole block. -/
theorem zeros : (![0, 0] : Fin 2 → Nat) = fun _ => 0 := by
  funext k
  match k with
  | 0 => rfl
  | 1 => rfl

/-- The second direction of a lane. -/
theorem second_direction (l : Fin 8192) :
    kernelRun0_A.sl.r_91 (F := Ideal) c i arg1 harg1 arg2 harg2 arg3 harg3 arg4 harg4 arg5 harg5 arg6 harg6 x0 x1 x2 x3 x4 x5 (ix2 0 l)
      = direction2 (scores x0 x1 x2 x3 x4) (rows x5 l) (8192 * (i 0).val + l.val) := by
  unfold kernelRun0_A.sl.r_91
  rw [picked2, direction2]
  congr 1
  funext j
  rw [second_logs, ← first c i arg1 harg1 arg2 harg2 arg3 harg3 arg4 harg4 arg5 harg5, ← row_at]
  simp only [kernelRun0_A.sl.r_81, kernelRun0_A.sl.r_82, kernelRun0_A.sl.r_83, kernelRun0_A.sl.r_84, kernelRun0_A.sl.r_85,
    kernelRun0_A.sl.r_86, kernelRun0_A.sl.r_87, kernelRun0_A.sl.r_88, kernelRun0_A.sl.r_89, kernelRun0_A.sl.r_90,
    kernelRun0_A.sl.r_80, kernelRun0_A.sl.r_75]
  rw [whole S8192x16 arg6 harg6 x5 _ zeros]

/-- What the body leaves in the direction's block, at a lane. -/
theorem out10 (l : Fin 8192) :
    out0_A_10 (F := Ideal) c i arg1 harg1 arg2 harg2 arg3 harg3 arg4 harg4 arg5 harg5 arg6 harg6 arg7 harg7 arg8 harg8 arg9 harg9
      arg10 harg10 arg11 harg11 x0 x1 x2 x3 x4 x5 x6 x7 x8 (ix2 0 l)
      = direction2 (scores x0 x1 x2 x3 x4) (rows x5 l) (8192 * (i 0).val + l.val) := by
  rw [← second_direction c i arg1 harg1 arg2 harg2 arg3 harg3 arg4 harg4 arg5 harg5 arg6 harg6]
  unfold out0_A_10 kernelRun0_A
  dsimp only
  rw [View.read_writes_full]

/-- What the body leaves in the positions' block, at a lane and a coordinate. -/
theorem out9 (l : Fin 8192) (n : Fin 2) :
    out0_A_9 (F := Ideal) c i arg1 harg1 arg2 harg2 arg3 harg3 arg4 harg4 arg5 harg5 arg6 harg6 arg7 harg7 arg8 harg8 arg9 harg9
      arg10 harg10 arg11 harg11 x0 x1 x2 x3 x4 x5 x6 x7 x8 (ix2 l n)
      = moved (direction2 (scores x0 x1 x2 x3 x4) (rows x5 l) (8192 * (i 0).val + l.val)) (places x6 l) (shapes x7 l)
          (fun k => x8 (ix2 l k)) (8192 * (i 0).val + l.val) n := by
  rw [← second_direction c i arg1 harg1 arg2 harg2 arg3 harg3 arg4 harg4 arg5 harg5 arg6 harg6]
  unfold out0_A_9 kernelRun0_A
  dsimp only
  rw [View.read_writes_full]
  have e : moved (kernelRun0_A.sl.r_91 (F := Ideal) c i arg1 harg1 arg2 harg2 arg3 harg3 arg4 harg4 arg5 harg5 arg6 harg6 x0 x1 x2 x3 x4 x5
      (ix2 0 l)) (places x6 l) (shapes x7 l) (fun k => x8 (ix2 l k)) (8192 * (i 0).val + l.val) n
      = shifted (kernelRun0_A.sl.r_91 (F := Ideal) c i arg1 harg1 arg2 harg2 arg3 harg3 arg4 harg4 arg5 harg5 arg6 harg6 x0 x1 x2 x3 x4 x5
      (ix2 0 l)) (places x6 l) (shapes x7 l) (fun k => x8 (ix2 l k)) (fun k => kernelRun0_A.sl.r_74 (F := Ideal) i (ix2 k l)) n := by
    simp only [normals]
    rfl
  rw [e]
  unfold kernelRun0_A.sl.r_91
  rw [← position]
  simp only [kernelRun0_A.sl.r_78, kernelRun0_A.sl.r_99, kernelRun0_A.sl.r_100, kernelRun0_A.sl.r_101, kernelRun0_A.sl.r_102,
    kernelRun0_A.sl.r_91, kernelRun0_A.sl.r_92, kernelRun0_A.sl.r_93, kernelRun0_A.sl.r_94, kernelRun0_A.sl.r_95,
    kernelRun0_A.sl.r_96, kernelRun0_A.sl.r_97, kernelRun0_A.sl.r_98, kernelRun0_A.sl.r_76, kernelRun0_A.sl.r_77]
  rw [whole S8192x8 arg7 harg7 x6 _ zeros, whole S8192x16 arg8 harg8 x7 _ zeros, whole S8192x2 arg9 harg9 x8 _ zeros]

end Cert.KernelIdeal.Block
-- ==== Proof.KernelArrays.lean ====
module

public import proofs.«01_k».proof.Proof.KernelBlock
public import proofs.«01_k».proof.Proof.Gen.KernelIdeal.Value
public import Idealize.ShloMosaic.Lib.Claim
public import Idealize.ShloMosaic.Lib.Pipeline.ValueKit

@[expose] public section

set_option maxRecDepth 16384

noncomputable section

namespace Cert.KernelIdeal.Block

open Idealize.ShloMosaic Idealize.ShloMosaic.TcCoe Cert.KernelIdeal.Gen Cert.Draw

variable (m : (ℓ : Loc nD τ sig) → Buf (Elt Ideal) ℓ)

/-- The log-probabilities from the launched arguments. -/
def scoresIn (c : Dev nD) : Fin 4 → EReal :=
  scores (m ((c : Thread nD τ).loc main_arg6)) (m ((c : Thread nD τ).loc main_arg7)) (m ((c : Thread nD τ).loc main_arg8))
    (m ((c : Thread nD τ).loc main_arg9)) (m ((c : Thread nD τ).loc main_arg10))

/-- The second direction of each particle, from the launched arguments. -/
def directionIn (c : Dev nD) (p : Fin 131072) : BitVec 32 :=
  direction2 (scoresIn m c) (fun k n => m ((c : Thread nD τ).loc main_arg2) (ix3 p k n)) p.val

/-- The new position of each particle, from the launched arguments. -/
def positionIn (c : Dev nD) (p : Fin 131072) (i : Fin 2) : EReal :=
  moved (directionIn m c p) (fun k n => m ((c : Thread nD τ).loc main_arg3) (ix3 p k n))
    (fun k a b => m ((c : Thread nD τ).loc main_arg4) (ix4 p k a b)) (fun n => m ((c : Thread nD τ).loc main_arg0) (ix2 p n)) p.val i

/-- The block of each window at each grid point. -/
theorem idx : ∀ t : Fin cfg0.N, win0_0.index t = ![0] ∧ win0_1.index t = ![0, 0] ∧ win0_2.index t = ![0] ∧ win0_3.index t = ![0, 0] ∧
    win0_4.index t = ![0] ∧ win0_5.index t = ![(grid0.coords t 0).val, 0] ∧ win0_6.index t = ![(grid0.coords t 0).val, 0] ∧
    win0_7.index t = ![(grid0.coords t 0).val, 0] ∧ win0_8.index t = ![(grid0.coords t 0).val, 0] ∧
    win0_9.index t = ![(grid0.coords t 0).val, 0] ∧ win0_10.index t = ![0, (grid0.coords t 0).val] := by
  decide +kernel

/-- The particle of a lane at a grid point. -/
def particle (t : Fin cfg0.N) (l : Fin 8192) : Fin 131072 :=
  ⟨8192 * (grid0.coords t 0).val + l.val, by have := (grid0.coords t 0).isLt; have : (grid0.coords t 0).val < 16 := this; omega⟩

/-- The small arrays are read whole at every grid point. -/
theorem scores_block (c : Dev nD) (t : Fin cfg0.N) :
    scores (iblk m c 0 t) (iblk m c 1 t) (iblk m c 2 t) (iblk m c 3 t) (iblk m c 4 t) = scoresIn m c := by
  have h0 : (iblk m c 0 t : Vec Ideal S2 .f32) = m ((c : Thread nD τ).loc main_arg6) := by
    funext j; idx_vars j; blk_ext [iblk, V, idx t]
  have h1 : (iblk m c 1 t : Vec Ideal S4x2 .f32) = m ((c : Thread nD τ).loc main_arg7) := by
    funext j; idx_vars j; blk_ext [iblk, V, idx t]
  have h2 : (iblk m c 2 t : Vec Ideal S4 .f32) = m ((c : Thread nD τ).loc main_arg8) := by
    funext j; idx_vars j; blk_ext [iblk, V, idx t]
  have h3 : (iblk m c 3 t : Vec Ideal S4x4 .f32) = m ((c : Thread nD τ).loc main_arg9) := by
    funext j; idx_vars j; blk_ext [iblk, V, idx t]
  have h4 : (iblk m c 4 t : Vec Ideal S4 .f32) = m ((c : Thread nD τ).loc main_arg10) := by
    funext j; idx_vars j; blk_ext [iblk, V, idx t]
  rw [scoresIn, ← h0, ← h1, ← h2, ← h3, ← h4]

/-- The transition table of a lane. -/
theorem rows_block (c : Dev nD) (t : Fin cfg0.N) (l : Fin 8192) :
    rows (iblk m c 5 t) l = fun k n => m ((c : Thread nD τ).loc main_arg2) (ix3 (particle t l) k n) := by
  funext k j
  unfold rows
  blk_simp [iblk, V, idx t]
  entry_read
  pointwise
  unfold particle
  blk_ext [idx t]

/-- The locations of a lane. -/
theorem places_block (c : Dev nD) (t : Fin cfg0.N) (l : Fin 8192) :
    places (iblk m c 6 t) l = fun k n => m ((c : Thread nD τ).loc main_arg3) (ix3 (particle t l) k n) := by
  funext k j
  unfold places
  blk_simp [iblk, V, idx t]
  entry_read
  pointwise
  unfold particle
  blk_ext [idx t]

/-- The covariances of a lane. -/
theorem shapes_block (c : Dev nD) (t : Fin cfg0.N) (l : Fin 8192) :
    shapes (iblk m c 7 t) l = fun k a b => m ((c : Thread nD τ).loc main_arg4) (ix4 (particle t l) k a b) := by
  funext k a b
  unfold shapes
  blk_simp [iblk, V, idx t]
  entry_read
  pointwise
  unfold particle
  blk_ext [idx t]

/-- The position of a lane. -/
theorem here_block (c : Dev nD) (t : Fin cfg0.N) (l : Fin 8192) (n : Fin 2) :
    (iblk m c 8 t : Vec Ideal S8192x2 .f32) (ix2 l n) = m ((c : Thread nD τ).loc main_arg0) (ix2 (particle t l) n) := by
  unfold particle
  blk_ext [iblk, V, idx t]

/-- The directions' array after the run. -/
theorem final10 (c : Dev nD) : (dats (F := Ideal) m 0 c).arrAt 10 cfg0.N = fun j : S1x131072.Idx => directionIn m c (j 1) := by
  refine (dats m 0 c).arrAt_eq_of_covers 10 _ (by decide +kernel) fun t hf y => ?_
  rw [after0_10, outsAt0]
  idx_vars y
  blk_simp
  obtain rfl : y0 = 0 := Subsingleton.elim _ _
  rw [out10, scores_block, rows_block]
  have e : ((win0_10.blk t).view.emb (ix2 0 y1)) = (ix2 0 (particle t y1) : S1x131072.Idx) := by
    unfold particle
    blk_ext [idx t]
  show _ = directionIn m c _
  rw [e]
  rfl

/-- The positions' array after the run. -/
theorem final9 (c : Dev nD) : (dats (F := Ideal) m 0 c).arrAt 9 cfg0.N = fun j : S131072x2.Idx => positionIn m c (j 0) (j 1) := by
  refine (dats m 0 c).arrAt_eq_of_covers 9 _ (by decide +kernel) fun t hf y => ?_
  rw [after0_9, outsAt0]
  idx_vars y
  blk_simp
  rw [out9, scores_block, rows_block, places_block, shapes_block]
  have e : ((win0_9.blk t).view.emb (ix2 y0 y1)) = (ix2 (particle t y0) y1 : S131072x2.Idx) := by
    unfold particle
    blk_ext [idx t]
  show _ = positionIn m c _ _
  rw [e]
  simp only [here_block]
  rfl

end Cert.KernelIdeal.Block
-- ==== Proof.ReferenceWords.lean ====
module

public import proofs.«01_k».proof.Proof.Gen.ReferenceIdeal.Run
public import proofs.«01_k».proof.Proof.Model
public import Idealize.ShloMosaic.Lib.Pipeline.ValueKit

@[expose] public section

set_option maxRecDepth 16384

noncomputable section

namespace Cert.ReferenceIdeal.Draw

open Idealize.ShloMosaic Idealize.ShloMosaic.TcCoe Cert.ReferenceIdeal Cert.ReferenceIdeal.Gen Cert.ReferenceIdeal.Value Cert.Draw

section rounds

variable {S : Shape} (j : S.Idx)

/-- The host's array of right words mixed once. -/
def mixture (x y : IVec S 32) (r s : BitVec 32) : IVec S 32 := xori x (ori (Host.shli y fun _ => r) (Host.shrui y fun _ => s))

/-- The host's mixing at an index. -/
theorem mixture_at (x y : IVec S 32) (r s : BitVec 32) : mixture x y r s j = (Pair.mk (x j) (y j)).mixed r s := by
  show IntOp.xori _ (IntOp.ori (IntOp.shli .host _ _) (IntOp.shrui .host _ _)) = _
  rw [ValueIdx.shli_host, ValueIdx.shrui_host]
  rfl

/-- One round of the host at an index. -/
theorem round_at {x y v w : IVec S 32} {r s : BitVec 32} {q : Pair} (h : (⟨x j, y j⟩ : Pair) = q) (hv : v = mixture x y r s) (hw : w = addi x v) :
    (⟨w j, v j⟩ : Pair) = q.round r s := by
  have e : v j = q.mixed r s := by rw [hv, mixture_at, h]
  have e' : w j = IntOp.addi (x j) (v j) := by rw [hw]; rfl
  rw [Pair.round, e', e, ← h]

/-- The right word with the key added: the host adds the round's number to the key first. -/
theorem right_at {x y v L : IVec S 32} {r s l n : BitVec 32} {q : Pair} (h : (⟨x j, y j⟩ : Pair) = q) (hv : v = addi (mixture x y r s) L)
    (hL : L j = IntOp.addi l n) : v j = q.rightOut r s l n := by
  have e : v j = IntOp.addi (mixture x y r s j) (L j) := by rw [hv]; rfl
  rw [e, mixture_at, h, hL]
  exact (BitVec.add_assoc _ _ _).symm

/-- The left word with the key added. -/
theorem left_at {x y v K : IVec S 32} {k : BitVec 32} {q : Pair} (h : (⟨x j, y j⟩ : Pair) = q) (hv : v = addi x K) (hK : K j = k) :
    v j = q.leftOut k := by
  have e : v j = IntOp.addi (x j) (K j) := by rw [hv]; rfl
  rw [e, hK, ← h]
  rfl

/-- Two words at an index, and the sum that the next round starts from. -/
theorem start_at {w x y : IVec S 32} {a b : BitVec 32} (hw : w = addi x y) (hx : x j = a) (hy : y j = b) :
    (⟨w j, y j⟩ : Pair) = Pair.start a b := by
  have e : w j = IntOp.addi (x j) (y j) := by rw [hw]; rfl
  rw [e, hx, hy]
  rfl

/-- Four rounds of the host by the first list of turns, at an index. -/
theorem four0_at {x y v6 v7 v13 v14 v20 v21 z v w K L : IVec S 32} {k l n : BitVec 32} {q : Pair}
    (hw : w = addi z v) (hz : z = addi v21 K) (hv : v = addi (mixture v21 v20 6#32 26#32) L) (h21 : v21 = addi v14 v20) (h20 : v20 = mixture v14 v13 26#32 6#32)
    (h14 : v14 = addi v7 v13) (h13 : v13 = mixture v7 v6 15#32 17#32) (h7 : v7 = addi x v6) (h6 : v6 = mixture x y 13#32 19#32)
    (hK : K j = k) (hL : L j = IntOp.addi l n) (h : (⟨x j, y j⟩ : Pair) = q) : (⟨w j, v j⟩ : Pair) = q.four0 k l n :=
  have e := round_at j (round_at j (round_at j h h6 h7) h13 h14) h20 h21
  start_at j hw (left_at j e hz hK) (right_at j e hv hL)

/-- Four rounds of the host by the second list of turns, at an index. -/
theorem four1_at {x y v6 v7 v13 v14 v20 v21 z v w K L : IVec S 32} {k l n : BitVec 32} {q : Pair}
    (hw : w = addi z v) (hz : z = addi v21 K) (hv : v = addi (mixture v21 v20 24#32 8#32) L) (h21 : v21 = addi v14 v20) (h20 : v20 = mixture v14 v13 16#32 16#32)
    (h14 : v14 = addi v7 v13) (h13 : v13 = mixture v7 v6 29#32 3#32) (h7 : v7 = addi x v6) (h6 : v6 = mixture x y 17#32 15#32)
    (hK : K j = k) (hL : L j = IntOp.addi l n) (h : (⟨x j, y j⟩ : Pair) = q) : (⟨w j, v j⟩ : Pair) = q.four1 k l n :=
  have e := round_at j (round_at j (round_at j h h6 h7) h13 h14) h20 h21
  start_at j hw (left_at j e hz hK) (right_at j e hv hL)

/-- The first three of the last four rounds of the host, at an index. -/
theorem three0_at {x y v6 v7 v13 v14 v20 v21 : IVec S 32} {q : Pair} (h21 : v21 = addi v14 v20) (h20 : v20 = mixture v14 v13 26#32 6#32)
    (h14 : v14 = addi v7 v13) (h13 : v13 = mixture v7 v6 15#32 17#32) (h7 : v7 = addi x v6) (h6 : v6 = mixture x y 13#32 19#32)
    (h : (⟨x j, y j⟩ : Pair) = q) : (⟨v21 j, v20 j⟩ : Pair) = q.three0 :=
  round_at j (round_at j (round_at j h h6 h7) h13 h14) h20 h21

end rounds

/-- A word spread over an array, at an index. -/
theorem same {S : Shape} (j : S.Idx) {h : S_.BroadcastsInDim S ![]} {x : IVec S_ 32} {k : BitVec 32} (e : x = fun _ => k) :
    broadcastInDim S ![] h x j = k := by
  subst e
  rfl

/-- A word plus a number spread over an array, at an index. -/
theorem more {S : Shape} (j : S.Idx) {h : S_.BroadcastsInDim S ![]} {x : IVec S_ 32} {k n : BitVec 32} (e : x = fun _ => k) :
    broadcastInDim S ![] h (addi x (constantI S_ 32 n)) j = IntOp.addi k n := by
  subst e
  rfl

/-- The left word that the cipher starts from: zero plus the key. -/
theorem zero_more {S : Shape} (j : S.Idx) {h : S_.BroadcastsInDim S ![]} {x : IVec S_ 32} {k : BitVec 32} (e : x = fun _ => k) :
    addi (broadcastInDim S ![] h (constantI S_ 32 0#32)) (broadcastInDim S ![] h x) j = k := by
  subst e
  exact BitVec.zero_add _

variable (V0 : Valuation τ sig (Elt Ideal))

/-- The seed's first word. -/
theorem seed1 : res_main_v3 V0 = fun _ => 0#32 := by
  funext i
  obtain rfl : i = ix0 := ValueIdx.eq_ix0 i
  rfl

/-- The seed's second word. -/
theorem seed2 : res_main_v5 V0 = fun _ => 42#32 := by
  funext i
  obtain rfl : i = ix0 := ValueIdx.eq_ix0 i
  rfl

/-- The seed's third word. -/
theorem seed3 : res_main_v11 V0 = fun _ => third 0#32 42#32 := by
  funext i
  obtain rfl : i = ix0 := ValueIdx.eq_ix0 i
  rfl

/-- The state of the cipher that makes the three keys, before its last four rounds. -/
theorem keys_before (j : S3.Idx) :
    (⟨res_main_call4_v0 V0 j, res_main_v19_1 V0 j⟩ : Pair) = before 0#32 42#32 (third 0#32 42#32) (iotaInDim S3 32 0 j) := by
  have h0 : (⟨res_main_call0_v0 V0 j, res_main_v15 V0 j⟩ : Pair) = Pair.start 0#32 (IntOp.addi (iotaInDim S3 32 0 j) 42#32) :=
    start_at j rfl (zero_more j (seed1 V0)) (congrArg (IntOp.addi _) (same j (seed2 V0)))
  have h1 := four0_at (w := res_main_call1_v0 V0) j rfl rfl rfl rfl rfl rfl rfl rfl rfl (same j (seed2 V0)) (more j (seed3 V0)) h0
  have h2 := four1_at (w := res_main_call2_v0 V0) j rfl rfl rfl rfl rfl rfl rfl rfl rfl (same j (seed3 V0)) (more j (seed1 V0)) h1
  have h3 := four0_at (w := res_main_call3_v0 V0) j rfl rfl rfl rfl rfl rfl rfl rfl rfl (same j (seed1 V0)) (more j (seed2 V0)) h2
  exact four1_at (w := res_main_call4_v0 V0) j rfl rfl rfl rfl rfl rfl rfl rfl rfl (same j (seed2 V0)) (more j (seed3 V0)) h3

/-- The state of the cipher that makes the three keys, after the first three of its last four rounds. -/
theorem keys_last (j : S3.Idx) :
    (⟨res_main_call4_v21 V0 j, res_main_call4_v20 V0 j⟩ : Pair) = (before 0#32 42#32 (third 0#32 42#32) (iotaInDim S3 32 0 j)).three0 :=
  three0_at j rfl rfl rfl rfl rfl rfl (keys_before V0 j)

/-- A key's first word. -/
theorem key_left (j : S3.Idx) : IntOp.addi (res_main_call4_v21 V0 j) (res_main_v11 V0 ix0) =
    (before 0#32 42#32 (third 0#32 42#32) (iotaInDim S3 32 0 j)).three0.leftOut (third 0#32 42#32) := by
  rw [← keys_last V0, seed3 V0]
  rfl

/-- A key's second word. -/
theorem key_right (j : S3.Idx) : IntOp.addi (mixture (res_main_call4_v21 V0) (res_main_call4_v20 V0) 6#32 26#32 j) (IntOp.addi (res_main_v3 V0 ix0) 5#32) =
    (before 0#32 42#32 (third 0#32 42#32) (iotaInDim S3 32 0 j)).three0.rightOut 6#32 26#32 0#32 5#32 := by
  rw [mixture_at, ← keys_last V0, seed1 V0]
  exact (BitVec.add_assoc _ _ _).symm

/-- The first draw's first key word. -/
theorem first1 : res_main_v59 V0 = fun _ => 1832780943#32 := by
  funext i
  obtain rfl : i = ix0 := ValueIdx.eq_ix0 i
  pointwise [res_main_v59, res_main_v25, res_main_v23]
  refine (key_left V0 _).trans ?_
  decide +kernel

/-- The first draw's second key word. -/
theorem first2 : res_main_v61 V0 = fun _ => 270669613#32 := by
  funext i
  obtain rfl : i = ix0 := ValueIdx.eq_ix0 i
  pointwise [res_main_v61, res_main_v25, res_main_v23]
  refine (key_right V0 _).trans ?_
  decide +kernel

/-- The second draw's first key word. -/
theorem second1 : res_main_v113 V0 = fun _ => 64467757#32 := by
  funext i
  obtain rfl : i = ix0 := ValueIdx.eq_ix0 i
  pointwise [res_main_v113, res_main_v27, res_main_v23]
  refine (key_left V0 _).trans ?_
  decide +kernel

/-- The second draw's second key word. -/
theorem second2 : res_main_v115 V0 = fun _ => 2916123636#32 := by
  funext i
  obtain rfl : i = ix0 := ValueIdx.eq_ix0 i
  pointwise [res_main_v115, res_main_v27, res_main_v23]
  refine (key_right V0 _).trans ?_
  decide +kernel

/-- The velocity's first key word. -/
theorem normal1 : res_main_v186 V0 = fun _ => 2465931498#32 := by
  funext i
  obtain rfl : i = ix0 := ValueIdx.eq_ix0 i
  pointwise [res_main_v186, res_main_v29, res_main_v23]
  refine (key_left V0 _).trans ?_
  decide +kernel

/-- The velocity's second key word. -/
theorem normal2 : res_main_v188 V0 = fun _ => 255383827#32 := by
  funext i
  obtain rfl : i = ix0 := ValueIdx.eq_ix0 i
  pointwise [res_main_v188, res_main_v29, res_main_v23]
  refine (key_right V0 _).trans ?_
  decide +kernel

/-- The third key word of a draw is made of its two others. -/
theorem mixed_key {x y : IVec S_ 32} {a b : BitVec 32} (hx : x = fun _ => a) (hy : y = fun _ => b) :
    xori (xori x y) (constantI S_ 32 466688986#32) = fun _ => third a b := by
  subst hx hy
  rfl

/-- The first draw's third key word. -/
theorem first3 : res_main_v67 V0 = fun _ => third 1832780943#32 270669613#32 := mixed_key (first1 V0) (first2 V0)

/-- The second draw's third key word. -/
theorem second3 : res_main_v121 V0 = fun _ => third 64467757#32 2916123636#32 := mixed_key (second1 V0) (second2 V0)

/-- The velocity's third key word. -/
theorem normal3 : res_main_v194 V0 = fun _ => third 2465931498#32 255383827#32 := mixed_key (normal1 V0) (normal2 V0)

/-- The host's words made floats of `[1, 2)`: combined, their fraction kept. -/
def floats {S : Shape} (x y K L : IVec S 32) : IVec S 32 :=
  ori (Host.shrui (xori (addi x K) (addi (mixture x y 6#32 26#32) L)) fun _ => 9#32) fun _ => 1065353216#32

/-- The host's floats at an index, from the state before the last four rounds. -/
theorem floats_at {S : Shape} (j : S.Idx) {x y K L : IVec S 32} {a b c : BitVec 32} (h : (⟨x j, y j⟩ : Pair) = (before a b (third a b) c).three0)
    (hK : K j = third a b) (hL : L j = IntOp.addi a 5#32) : floats x y K L j = mantissa (word a b c) := by
  have e : floats x y K L j = IntOp.ori (IntOp.shrui .host (IntOp.xori (addi x K j) (addi (mixture x y 6#32 26#32) L j)) 9#32) 1065353216#32 := rfl
  rw [e, ValueIdx.shrui_host, left_at j h rfl hK, right_at j h rfl hL]
  rfl

/-- The counter of the directions' draws. -/
def counter4 (j : S131072x4.Idx) : BitVec 32 := IntOp.addi (IntOp.muli (iotaInDim S131072x4 32 0 j) 4#32) (iotaInDim S131072x4 32 1 j)

/-- The counter of the velocity's draw. -/
def counter2 (j : S131072x2.Idx) : BitVec 32 := IntOp.addi (IntOp.muli (iotaInDim S131072x2 32 0 j) 2#32) (iotaInDim S131072x2 32 1 j)

/-- The first draw's cipher before the last fraction. -/
theorem first_last (j : S131072x4.Idx) : (⟨res_main_call9_v21 V0 j, res_main_call9_v20 V0 j⟩ : Pair) =
    (before 1832780943#32 270669613#32 (third 1832780943#32 270669613#32) (counter4 j)).three0 := by
  have h0 : (⟨res_main_call5_v0 V0 j, res_main_v71 V0 j⟩ : Pair) = Pair.start 1832780943#32 (IntOp.addi (counter4 j) 270669613#32) :=
    start_at j rfl (zero_more j (first1 V0)) (congrArg (IntOp.addi _) (same j (first2 V0)))
  have h1 := four0_at (w := res_main_call6_v0 V0) j rfl rfl rfl rfl rfl rfl rfl rfl rfl (same j (first2 V0)) (more j (first3 V0)) h0
  have h2 := four1_at (w := res_main_call7_v0 V0) j rfl rfl rfl rfl rfl rfl rfl rfl rfl (same j (first3 V0)) (more j (first1 V0)) h1
  have h3 := four0_at (w := res_main_call8_v0 V0) j rfl rfl rfl rfl rfl rfl rfl rfl rfl (same j (first1 V0)) (more j (first2 V0)) h2
  have h4 := four1_at (w := res_main_call9_v0 V0) j rfl rfl rfl rfl rfl rfl rfl rfl rfl (same j (first2 V0)) (more j (first3 V0)) h3
  exact three0_at j rfl rfl rfl rfl rfl rfl h4

/-- The second draw's cipher before the last fraction. -/
theorem second_last (j : S131072x4.Idx) : (⟨res_main_call16_v21 V0 j, res_main_call16_v20 V0 j⟩ : Pair) =
    (before 64467757#32 2916123636#32 (third 64467757#32 2916123636#32) (counter4 j)).three0 := by
  have h0 : (⟨res_main_call12_v0 V0 j, res_main_v125 V0 j⟩ : Pair) = Pair.start 64467757#32 (IntOp.addi (counter4 j) 2916123636#32) :=
    start_at j rfl (zero_more j (second1 V0)) (congrArg (IntOp.addi _) (same j (second2 V0)))
  have h1 := four0_at (w := res_main_call13_v0 V0) j rfl rfl rfl rfl rfl rfl rfl rfl rfl (same j (second2 V0)) (more j (second3 V0)) h0
  have h2 := four1_at (w := res_main_call14_v0 V0) j rfl rfl rfl rfl rfl rfl rfl rfl rfl (same j (second3 V0)) (more j (second1 V0)) h1
  have h3 := four0_at (w := res_main_call15_v0 V0) j rfl rfl rfl rfl rfl rfl rfl rfl rfl (same j (second1 V0)) (more j (second2 V0)) h2
  have h4 := four1_at (w := res_main_call16_v0 V0) j rfl rfl rfl rfl rfl rfl rfl rfl rfl (same j (second2 V0)) (more j (second3 V0)) h3
  exact three0_at j rfl rfl rfl rfl rfl rfl h4

/-- The velocity's cipher before the last fraction. -/
theorem normal_last (j : S131072x2.Idx) : (⟨res_main_call26_v21 V0 j, res_main_call26_v20 V0 j⟩ : Pair) =
    (before 2465931498#32 255383827#32 (third 2465931498#32 255383827#32) (counter2 j)).three0 := by
  have h0 : (⟨res_main_call22_v0 V0 j, res_main_v198 V0 j⟩ : Pair) = Pair.start 2465931498#32 (IntOp.addi (counter2 j) 255383827#32) :=
    start_at j rfl (zero_more j (normal1 V0)) (congrArg (IntOp.addi _) (same j (normal2 V0)))
  have h1 := four0_at (w := res_main_call23_v0 V0) j rfl rfl rfl rfl rfl rfl rfl rfl rfl (same j (normal2 V0)) (more j (normal3 V0)) h0
  have h2 := four1_at (w := res_main_call24_v0 V0) j rfl rfl rfl rfl rfl rfl rfl rfl rfl (same j (normal3 V0)) (more j (normal1 V0)) h1
  have h3 := four0_at (w := res_main_call25_v0 V0) j rfl rfl rfl rfl rfl rfl rfl rfl rfl (same j (normal1 V0)) (more j (normal2 V0)) h2
  have h4 := four1_at (w := res_main_call26_v0 V0) j rfl rfl rfl rfl rfl rfl rfl rfl rfl (same j (normal2 V0)) (more j (normal3 V0)) h3
  exact three0_at j rfl rfl rfl rfl rfl rfl h4

/-- The counter of the directions' draws, as a number. -/
theorem counter4_at (p : Fin 131072) (k : Fin 4) : counter4 (ix2 p k) = BitVec.ofNat 32 (4 * p.val + k.val) := by
  unfold counter4
  pointwise
  apply BitVec.eq_of_toNat_eq
  simp only [IntOp.addi, IntOp.muli, BitVec.toNat_add, BitVec.toNat_mul, BitVec.toNat_ofNat]
  omega

/-- The counter of the velocity's draw, as a number. -/
theorem counter2_at (p : Fin 131072) (k : Fin 2) : counter2 (ix2 p k) = BitVec.ofNat 32 (2 * p.val + k.val) := by
  unfold counter2
  pointwise
  apply BitVec.eq_of_toNat_eq
  simp only [IntOp.addi, IntOp.muli, BitVec.toNat_add, BitVec.toNat_mul, BitVec.toNat_ofNat]
  omega

end Cert.ReferenceIdeal.Draw
-- ==== Proof.ReferenceScores.lean ====
module

public import proofs.«01_k».proof.Proof.ReferenceWords

@[expose] public section

set_option maxRecDepth 16384

noncomputable section

namespace Cert.ReferenceIdeal.Draw

open Idealize.ShloMosaic Idealize.ShloMosaic.TcCoe Cert.ReferenceIdeal Cert.ReferenceIdeal.Gen Cert.ReferenceIdeal.Value Cert.Draw

/-- The word of one stands for one. -/
theorem one_word : Ideal.ofBits .f32 0x3F800000#32 = 1 := by
  pointwise

/-- The word of minus infinity stands for the least value. -/
theorem least_word : Ideal.ofBits .f32 0xFF800000#32 = ⊥ := by
  simp [Ideal.ofBits, Ideal.ieee]

/-- A fold over four places, written out. -/
theorem fold4 {α : Type} (f : α → α → α) [Std.Commutative f] [Std.Associative f] (b : α) (x : Fin 4 → α) :
    (Finset.univ : Finset (Fin 4)).fold f b x = f (x 0) (f (x 1) (f (x 2) (f (x 3) b))) := rfl

/-- The largest of four, as the host folds it from minus infinity. -/
theorem top_fold (x : Fin 4 → EReal) : max (x 0) (max (x 1) (max (x 2) (max (x 3) ⊥))) = top x := by
  unfold top
  rw [max_bot_right, max_assoc]

/-- The host's squashed units from the first layer. -/
def squashed (v : FVec Ideal S4 .f32) : FVec Ideal S4 .f32 :=
  Host.divf v (addf (broadcastInDim S4 ![] bcast_S_S4 (constant S_ .f32 0x3F800000#32)) (Host.absf v))

/-- The host's squashed units, one of them. -/
theorem squashed_at (v : FVec Ideal S4 .f32) (k : Fin 4) : squashed v (ix1 k) = squash (v (ix1 k)) := by
  unfold squash
  rw [one_word]
  pointwise [squashed]
  rfl

/-- The host's first layer. -/
def layer1 (d : FVec Ideal S2 .f32) (w : FVec Ideal S4x2 .f32) (b : FVec Ideal S4 .f32) : FVec Ideal S4 .f32 :=
  addf (Host.dotGeneral dot_S2_S2x4_S4_0_0_n_1_n_n none d (transpose S2x4 [1, 0] w transposes_S4x2_S2x4_1_0)) b

/-- The host's first layer, one unit. -/
theorem layer1_at (d : FVec Ideal S2 .f32) (w : FVec Ideal S4x2 .f32) (b : FVec Ideal S4 .f32) (k : Fin 4) :
    layer1 d w b (ix1 k) = Cert.Draw.hidden (fun i => d (ix1 i)) (fun k i => w (ix2 k i)) (fun k => b (ix1 k)) k := by
  unfold Cert.Draw.hidden
  pointwise [layer1]
  rw [Fin.sum_univ_two]

/-- The host's second layer. -/
def layer2 (h : FVec Ideal S4 .f32) (w : FVec Ideal S4x4 .f32) (b : FVec Ideal S4 .f32) : FVec Ideal S4 .f32 :=
  addf (Host.dotGeneral dot_S4_S4x4_S4_0_0_n_1_n_n none h (transpose S4x4 [1, 0] w transposes_S4x4_S4x4_1_0)) b

/-- The host's second layer, one output. -/
theorem layer2_at (h : FVec Ideal S4 .f32) (w : FVec Ideal S4x4 .f32) (b : FVec Ideal S4 .f32) (j : Fin 4) :
    layer2 h w b (ix1 j) = output (fun k => h (ix1 k)) (fun j k => w (ix2 j k)) (fun k => b (ix1 k)) j := by
  unfold output
  pointwise [layer2]
  rw [Fin.sum_univ_four]

/-- The host's largest of four outputs, over the one place it keeps. -/
def largest (v : FVec Ideal S4 .f32) : FVec Ideal S1 .f32 :=
  broadcastInDim S1 ![] bcast_S_S1 (Host.reduce FloatOps.maximumf v (constant S_ .f32 0xFF800000#32) reducesTo_S4_S_d0 h_S_)

/-- The host's largest of four outputs. -/
theorem largest_at (v : FVec Ideal S4 .f32) (i : S1.Idx) : largest v i = top fun k => v (ix1 k) := by
  idx_vars i
  pointwise [largest]
  rw [least_word]
  exact (fold4 max ⊥ _).trans (top_fold fun k => (v (ix1 k) : EReal))

/-- The host's log-softmax of four outputs. -/
def logged (v : FVec Ideal S4 .f32) (t : FVec Ideal S1 .f32) : FVec Ideal S4 .f32 :=
  subf v (broadcastInDim S4 ![0] bcast_S1_S4_0 (addf (Host.log (broadcastInDim S1 ![] bcast_S_S1
    (Host.reduceAdd (Host.exp (subf v (broadcastInDim S4 ![0] bcast_S1_S4_0 t))) (constant S_ .f32 0x00000000#32) reducesTo_S4_S_d0 h_S_))) t))

/-- The host's log-softmax, one place. -/
theorem logged_at (v : FVec Ideal S4 .f32) (j : Fin 4) : logged v (largest v) (ix1 j) = logSoftmax (fun k => v (ix1 k)) j := by
  unfold logSoftmax
  pointwise [logged]
  rw [Fin.sum_univ_four]
  simp only [largest_at]

/-- The host's scores of the four directions, from the words and the log-probabilities. -/
def scored (w : IVec S131072x4 32) (g : FVec Ideal S131072x4 .f32) : FVec Ideal S131072x4 .f32 :=
  addf (Host.negf (Host.log (Host.negf (Host.log (maximumf (broadcastInDim S131072x4 ![] bcast_S_S131072x4 (constant S_ .f32 0x00800000#32))
    (addf (mulf (subf (bitcastToFloat .f32 w) (broadcastInDim S131072x4 ![] bcast_S_S131072x4 (constant S_ .f32 0x3F800000#32)))
      (broadcastInDim S131072x4 ![] bcast_S_S131072x4 (constant S_ .f32 0x3F800000#32)))
      (broadcastInDim S131072x4 ![] bcast_S_S131072x4 (constant S_ .f32 0x00800000#32)))))))) g

/-- The host's scores, a particle and a direction. -/
theorem scored_at (w : IVec S131072x4 32) (g : FVec Ideal S131072x4 .f32) (p : Fin 131072) (j : Fin 4) (x : BitVec 32)
    (h : w (ix2 p j) = mantissa x) : scored w g (ix2 p j) = g (ix2 p j) - logExponential x := by
  unfold logExponential spread unit
  rw [← h, one_word, Ideal.ofBits_zero_f32, zero_sub, sub_eq_add_neg (g (ix2 p j)), add_comm (g (ix2 p j))]
  pointwise [scored]

/-- The four log-probabilities, the same for every particle. -/
theorem bcast_row (g : FVec Ideal S4 .f32) (p : Fin 131072) (j : Fin 4) :
    broadcastInDim S131072x4 ![1] bcast_S4_S131072x4_1 g (ix2 p j) = g (ix1 j) := by
  pointwise

variable (V0 : Valuation τ sig (Elt Ideal))

/-- The reference's log-probabilities from its arguments. -/
def scoresOf : Fin 4 → EReal :=
  logits (fun i => V0 (Proc.devRef .tc main_arg6) (ix1 i)) (fun k i => V0 (Proc.devRef .tc main_arg7) (ix2 k i))
    (fun k => V0 (Proc.devRef .tc main_arg8) (ix1 k)) (fun j k => V0 (Proc.devRef .tc main_arg9) (ix2 j k))
    (fun j => V0 (Proc.devRef .tc main_arg10) (ix1 j))

/-- The reference's outputs of the second layer. -/
theorem outputs_at (j : Fin 4) : res_main_v39 V0 (ix1 j) =
    output (fun k => squash (Cert.Draw.hidden (fun i => V0 (Proc.devRef .tc main_arg6) (ix1 i)) (fun k i => V0 (Proc.devRef .tc main_arg7) (ix2 k i))
      (fun k => V0 (Proc.devRef .tc main_arg8) (ix1 k)) k)) (fun j k => V0 (Proc.devRef .tc main_arg9) (ix2 j k))
      (fun j => V0 (Proc.devRef .tc main_arg10) (ix1 j)) j := by
  have e : res_main_v39 V0 = layer2 (squashed (layer1 (V0 (Proc.devRef .tc main_arg6)) (V0 (Proc.devRef .tc main_arg7)) (V0 (Proc.devRef .tc main_arg8))))
      (V0 (Proc.devRef .tc main_arg9)) (V0 (Proc.devRef .tc main_arg10)) := rfl
  rw [e]
  refine (layer2_at _ _ _ j).trans ?_
  simp only [squashed_at, layer1_at]

/-- The reference's log-probabilities. -/
theorem logs_at (j : Fin 4) : logged (res_main_v39 V0) (res_main_v41 V0) (ix1 j) = scoresOf V0 j := by
  have e : res_main_v41 V0 = largest (res_main_v39 V0) := rfl
  rw [e, logged_at]
  unfold scoresOf logits
  congr 1
  funext k
  exact outputs_at V0 k

/-- The reference's scores of the first draw. -/
theorem first_scores (p : Fin 131072) (j : Fin 4) : res_main_v95 V0 (ix2 p j) = scoresOf V0 j - logExponential (word1 p.val j.val) := by
  have e : res_main_v95 V0 = scored (floats (res_main_call9_v21 V0) (res_main_call9_v20 V0)
      (broadcastInDim S131072x4 ![] bcast_S_S131072x4 (res_main_v67 V0))
      (broadcastInDim S131072x4 ![] bcast_S_S131072x4 (addi (res_main_v59 V0) (constantI S_ 32 5#32))))
      (broadcastInDim S131072x4 ![1] bcast_S4_S131072x4_1 (logged (res_main_v39 V0) (res_main_v41 V0))) := rfl
  rw [e, scored_at _ _ _ _ _ (floats_at _ (first_last V0 _) (same _ (first3 V0)) (more _ (first1 V0))), counter4_at, ← logs_at]
  congr 1
  exact bcast_row _ _ _

end Cert.ReferenceIdeal.Draw
-- ==== Proof.ReferencePick.lean ====
module

public import proofs.«01_k».proof.Proof.ReferenceScores

@[expose] public section

set_option maxRecDepth 16384

noncomputable section

namespace Cert.ReferenceIdeal.Draw

open Idealize.ShloMosaic Idealize.ShloMosaic.TcCoe Cert.ReferenceIdeal Cert.ReferenceIdeal.Gen Cert.ReferenceIdeal.Value Cert.Draw

/-- A fold over one place, written out. -/
theorem fold1 {α : Type} (f : α → α → α) [Std.Commutative f] [Std.Associative f] (b : α) (x : Fin 1 → α) :
    (Finset.univ : Finset (Fin 1)).fold f b x = f (x 0) b := rfl

/-- The host's largest score of each particle. -/
def peak (s : FVec Ideal S131072x4 .f32) : FVec Ideal S131072 .f32 :=
  Host.reduce FloatOps.maximumf s (constant S_ .f32 0xFF800000#32) reducesTo_S131072x4_S131072_d1 h_S_

/-- The host's largest score of one particle. -/
theorem peak_at (s : FVec Ideal S131072x4 .f32) (p : Fin 131072) : peak s (ix1 p) = top fun k => s (ix2 p k) := by
  pointwise [peak]
  rw [least_word]
  exact (fold4 max ⊥ _).trans (top_fold fun k => (s (ix2 p k) : EReal))

/-- The host's places of the scores that equal a number, and four elsewhere. -/
def marked (s : FVec Ideal S131072x4 .f32) (t : FVec Ideal S131072 .f32) : IVec S131072x4 32 :=
  select (cmpf .oeq s (broadcastInDim S131072x4 ![0, 1] bcast_S131072x1_S131072x4_0_1 (broadcastInDim S131072x1 ![0] bcast_S131072_S131072x1_0 t)))
    (iotaInDim S131072x4 32 1) (broadcastInDim S131072x4 ![] bcast_S_S131072x4 (id (constantI S_ 32 4#32)))

/-- One of the host's places. -/
theorem marked_at (s : FVec Ideal S131072x4 .f32) (t : FVec Ideal S131072 .f32) (p : Fin 131072) (k : Fin 4) :
    marked s t (ix2 p k) = if s (ix2 p k) = t (ix1 p) then BitVec.ofNat 32 k.val else 4#32 := by
  pointwise [marked, id]

/-- The host's least place. -/
def least (m : IVec S131072x4 32) : IVec S131072 32 :=
  Host.reduce IntOp.minsi m (constantI S_ 32 2147483647#32) reducesTo_S131072x4_S131072_d1 h_S_

/-- The host's least place of one particle. -/
theorem least_at (m : IVec S131072x4 32) (p : Fin 131072) : least m (ix1 p) =
    IntOp.minsi (m (ix2 p 0)) (IntOp.minsi (m (ix2 p 1)) (IntOp.minsi (m (ix2 p 2)) (IntOp.minsi (m (ix2 p 3)) 2147483647#32))) := by
  have h : S131072x4.Reduces [1] S131072 := by decide
  have e (k : Fin 4) : h.lift (ix1 p) k = ix2 p k := by
    funext a
    match a with
    | ⟨0, _⟩ => rfl
    | ⟨1, _⟩ => rfl
  unfold least
  rw [Host.reduce_eq_fold_single _ _ _ _ h]
  exact (congrArg (Finset.univ.fold IntOp.minsi _) (funext fun k => congrArg m (e k))).trans (fold4 IntOp.minsi _ fun k => m (ix2 p k))

/-- One of four is the largest. -/
theorem top_attained (s : Fin 4 → EReal) : s 0 = top s ∨ s 1 = top s ∨ s 2 = top s ∨ s 3 = top s := by
  unfold top
  rcases max_choice (max (s 0) (s 1)) (max (s 2) (s 3)) with h | h <;> rw [h]
  · rcases max_choice (s 0) (s 1) with h | h <;> rw [h] <;> simp
  · rcases max_choice (s 2) (s 3) with h | h <;> rw [h] <;> simp

/-- The host's place of the largest score: the first one. -/
theorem pick_at (s : FVec Ideal S131072x4 .f32) (p : Fin 131072) : least (marked s (peak s)) (ix1 p) = pick fun k => s (ix2 p k) := by
  rw [least_at]
  simp only [marked_at, peak_at]
  have h := top_attained fun k => s (ix2 p k)
  unfold pick
  change _ = if _ = top (fun k => s (ix2 p k)) then _ else if _ = top (fun k => s (ix2 p k)) then _ else if _ = top (fun k => s (ix2 p k)) then _ else _
  generalize top (fun k => s (ix2 p k)) = t at h ⊢
  dsimp only at h ⊢
  by_cases h0 : s (ix2 p 0) = t
  · rw [if_pos h0, if_pos h0]
    split_ifs <;> decide
  rw [if_neg h0, if_neg h0]
  by_cases h1 : s (ix2 p 1) = t
  · rw [if_pos h1, if_pos h1]
    split_ifs <;> decide
  rw [if_neg h1, if_neg h1]
  by_cases h2 : s (ix2 p 2) = t
  · rw [if_pos h2, if_pos h2]
    split_ifs <;> decide
  rw [if_neg h2, if_neg h2, if_pos (((h.resolve_left h0).resolve_left h1).resolve_left h2)]
  decide

/-- A drawn direction is one of four. -/
theorem pick_lt (s : Fin 4 → EReal) : ∃ k : Fin 4, pick s = BitVec.ofNat 32 k.val := by
  unfold pick
  split_ifs
  exacts [⟨0, rfl⟩, ⟨1, rfl⟩, ⟨2, rfl⟩, ⟨3, rfl⟩]

/-- Choosing by the number of a direction. -/
theorem choose_of (k : Fin 4) (r : Fin 4 → EReal) : choose (BitVec.ofNat 32 k.val) r = r k := by
  unfold choose
  fin_cases k <;> simp [IntOp.cmpi, Scalar.select]

/-- The host's index with negative ones counted from the end. -/
def wrapped (z : IVec S131072x1x1 32) : IVec S131072x1x1 32 :=
  select (cmpi .slt z (broadcastInDim S131072x1x1 ![] bcast_S_S131072x1x1 (constantI S_ 32 0#32)))
    (addi z (broadcastInDim S131072x1x1 ![] bcast_S_S131072x1x1 (constantI S_ 32 4#32))) z

/-- A direction is no negative index. -/
theorem wrapped_at (z : IVec S131072x1x1 32) (p : Fin 131072) (k : Fin 4) (h : z (ix3 p 0 0) = BitVec.ofNat 32 k.val) :
    wrapped z (ix3 p 0 0) = BitVec.ofNat 32 k.val := by
  have e : wrapped z (ix3 p 0 0) = Scalar.select (IntOp.cmpi .slt (z (ix3 p 0 0)) 0#32) (IntOp.addi (z (ix3 p 0 0)) 4#32) (z (ix3 p 0 0)) := by
    pointwise [wrapped]
  rw [e, h]
  fin_cases k <;> rfl

/-- The host's test of each entry of an index array. -/
def tested (z : IVec S131072x1x1 32) : IVec S131072x1x1 1 :=
  andi (cmpi .sge z (broadcastInDim S131072x1x1 ![] bcast_S_S131072x1x1 (constantI S_ 32 0#32)))
    (cmpi .sle z (broadcastInDim S131072x1x1 ![0, 1, 2] bcast_S1x1x1_S131072x1x1_0_1_2 (broadcastInDim S1x1x1 ![2] bcast_S1_S1x1x1_2 (constantI S1 32 3#32))))

/-- The host's test that an index is one of four. -/
def inside (z : IVec S131072x1x1 32) : IVec S131072x1 1 :=
  Host.reduce IntOp.andi (tested z) (constantI S_ 1 1#1) reducesTo_S131072x1x1_S131072x1_d2 h_S_

/-- A direction is inside. -/
theorem inside_at (z : IVec S131072x1x1 32) (p : Fin 131072) (k : Fin 4) (h : z (ix3 p 0 0) = BitVec.ofNat 32 k.val) : inside z (ix2 p 0) = 1#1 := by
  have e : inside z (ix2 p 0) = IntOp.andi (IntOp.andi (IntOp.cmpi .sge (z (ix3 p 0 0)) 0#32) (IntOp.cmpi .sle (z (ix3 p 0 0)) 3#32)) 1#1 := by
    have h : S131072x1x1.Reduces [2] S131072x1 := by decide
    have e : h.lift (ix2 p 0) (0 : Fin 1) = ix3 p 0 0 := by
      funext a
      match a with
      | ⟨0, _⟩ => rfl
      | ⟨1, _⟩ => rfl
      | ⟨2, _⟩ => rfl
    unfold inside
    rw [Host.reduce_eq_fold_single _ _ _ _ h]
    refine (fold1 _ _ _).trans ?_
    refine (congrArg (fun i => IntOp.andi (tested z i) 1#1) e).trans ?_
    pointwise [tested]
  rw [e, h]
  fin_cases k <;> decide

/-- The clamped index of a direction is its number. -/
theorem clamped (k : Fin 4) : min (BitVec.ofNat 32 k.val).toInt.toNat 3 + 0 + 0 = k.val := by
  fin_cases k <;> rfl

/-- The host's rows of the transition table at an index. -/
theorem gather2_at (T : FVec Ideal S131072x4x4 .f32) (z : IVec S131072x1x1 32) (p : Fin 131072) (k j : Fin 4) (h : z (ix3 p 0 0) = BitVec.ofNat 32 k.val) :
    Host.gather gather_S131072x4x4_S131072x1x1_S131072x1x4_2_1_0_0_1_2_114 T z (ix3 p 0 j) = T (ix3 p k j) := by
  unfold Host.gather
  congr 1
  funext a
  apply Fin.ext
  match a with
  | ⟨0, _⟩ =>
    show 0 + p.val + 0 = p.val
    omega
  | ⟨1, _⟩ =>
    refine Eq.trans (b := min (z (gather_S131072x4x4_S131072x1x1_S131072x1x4_2_1_0_0_1_2_114.siIdx (ix3 p 0 j) (0 : Fin 1))).toInt.toNat 3 + 0 + 0) rfl ?_
    have e : gather_S131072x4x4_S131072x1x1_S131072x1x4_2_1_0_0_1_2_114.siIdx (ix3 p 0 j) (0 : Fin 1) = ix3 p 0 0 := by
      funext b
      match b with
      | ⟨0, _⟩ => rfl
      | ⟨1, _⟩ => rfl
      | ⟨2, _⟩ => rfl
    rw [e, h]
    exact clamped k
  | ⟨2, _⟩ =>
    show 0 + 0 + j.val = j.val
    omega

/-- The host's locations at an index. -/
theorem gather3_at (L : FVec Ideal S131072x4x2 .f32) (z : IVec S131072x1x1 32) (p : Fin 131072) (k : Fin 4) (j : Fin 2) (h : z (ix3 p 0 0) = BitVec.ofNat 32 k.val) :
    Host.gather gather_S131072x4x2_S131072x1x1_S131072x1x2_2_1_0_0_1_2_112 L z (ix3 p 0 j) = L (ix3 p k j) := by
  unfold Host.gather
  congr 1
  funext a
  apply Fin.ext
  match a with
  | ⟨0, _⟩ =>
    show 0 + p.val + 0 = p.val
    omega
  | ⟨1, _⟩ =>
    refine Eq.trans (b := min (z (gather_S131072x4x2_S131072x1x1_S131072x1x2_2_1_0_0_1_2_112.siIdx (ix3 p 0 j) (0 : Fin 1))).toInt.toNat 3 + 0 + 0) rfl ?_
    have e : gather_S131072x4x2_S131072x1x1_S131072x1x2_2_1_0_0_1_2_112.siIdx (ix3 p 0 j) (0 : Fin 1) = ix3 p 0 0 := by
      funext b
      match b with
      | ⟨0, _⟩ => rfl
      | ⟨1, _⟩ => rfl
      | ⟨2, _⟩ => rfl
    rw [e, h]
    exact clamped k
  | ⟨2, _⟩ =>
    show 0 + 0 + j.val = j.val
    omega

/-- The host's covariances at an index. -/
theorem gather4_at (C : FVec Ideal S131072x4x2x2 .f32) (z : IVec S131072x1x1 32) (p : Fin 131072) (k : Fin 4) (i j : Fin 2) (h : z (ix3 p 0 0) = BitVec.ofNat 32 k.val) :
    Host.gather gather_S131072x4x2x2_S131072x1x1_S131072x1x2x2_23_1_0_0_1_2_1122 C z (ix4 p 0 i j) = C (ix4 p k i j) := by
  unfold Host.gather
  congr 1
  funext a
  apply Fin.ext
  match a with
  | ⟨0, _⟩ =>
    show 0 + p.val + 0 = p.val
    omega
  | ⟨1, _⟩ =>
    refine Eq.trans (b := min (z (gather_S131072x4x2x2_S131072x1x1_S131072x1x2x2_23_1_0_0_1_2_1122.siIdx (ix4 p 0 i j) (0 : Fin 1))).toInt.toNat 3 + 0 + 0) rfl ?_
    have e : gather_S131072x4x2x2_S131072x1x1_S131072x1x2x2_23_1_0_0_1_2_1122.siIdx (ix4 p 0 i j) (0 : Fin 1) = ix3 p 0 0 := by
      funext b
      match b with
      | ⟨0, _⟩ => rfl
      | ⟨1, _⟩ => rfl
      | ⟨2, _⟩ => rfl
    rw [e, h]
    exact clamped k
  | ⟨2, _⟩ =>
    show 0 + 0 + i.val = i.val
    omega
  | ⟨3, _⟩ =>
    show 0 + 0 + j.val = j.val
    omega

end Cert.ReferenceIdeal.Draw
-- ==== Proof.ReferenceDraws.lean ====
module

public import proofs.«01_k».proof.Proof.ReferencePick

@[expose] public section

set_option maxRecDepth 16384

noncomputable section

namespace Cert.ReferenceIdeal.Draw

open Idealize.ShloMosaic Idealize.ShloMosaic.TcCoe Cert.ReferenceIdeal Cert.ReferenceIdeal.Gen Cert.ReferenceIdeal.Value Cert.Draw

/-- The host's index array of a direction per particle. -/
def index1 (z : IVec S131072 32) : IVec S131072x1x1 32 := broadcastInDim S131072x1x1 ![0] bcast_S131072_S131072x1x1_0 z

/-- One entry of the host's index array. -/
theorem index1_at (z : IVec S131072 32) (p : Fin 131072) : index1 z (ix3 p 0 0) = z (ix1 p) := by
  pointwise [index1]

/-- The host's row of the transition table for each particle. -/
def rowOf (T : FVec Ideal S131072x4x4 .f32) (z : IVec S131072x1x1 32) : FVec Ideal S131072x4 .f32 :=
  shapeCast _ (select (broadcastInDim S131072x1x4 ![0, 1] bcast_S131072x1_S131072x1x4_0_1 (inside z))
    (Host.gather gather_S131072x4x4_S131072x1x1_S131072x1x4_2_1_0_0_1_2_114 T z)
    (broadcastInDim S131072x1x4 ![] bcast_S_S131072x1x4 (constant S_ .f32 0x7FC00000#32))) shapeCasts_S131072x1x4_S131072x4

/-- The host's row of the transition table for one particle. -/
theorem rowOf_at (T : FVec Ideal S131072x4x4 .f32) (z : IVec S131072x1x1 32) (p : Fin 131072) (k j : Fin 4)
    (h : z (ix3 p 0 0) = BitVec.ofNat 32 k.val) : rowOf T z (ix2 p j) = T (ix3 p k j) := by
  pointwise [rowOf]
  rw [inside_at z p k h, gather2_at T z p k j h]
  rfl

/-- The host's location for each particle. -/
def placeOf (L : FVec Ideal S131072x4x2 .f32) (z : IVec S131072x1x1 32) : FVec Ideal S131072x2 .f32 :=
  shapeCast _ (select (broadcastInDim S131072x1x2 ![0, 1] bcast_S131072x1_S131072x1x2_0_1 (inside z))
    (Host.gather gather_S131072x4x2_S131072x1x1_S131072x1x2_2_1_0_0_1_2_112 L z)
    (broadcastInDim S131072x1x2 ![] bcast_S_S131072x1x2 (constant S_ .f32 0x7FC00000#32))) shapeCasts_S131072x1x2_S131072x2

/-- The host's location for one particle. -/
theorem placeOf_at (L : FVec Ideal S131072x4x2 .f32) (z : IVec S131072x1x1 32) (p : Fin 131072) (k : Fin 4) (j : Fin 2)
    (h : z (ix3 p 0 0) = BitVec.ofNat 32 k.val) : placeOf L z (ix2 p j) = L (ix3 p k j) := by
  pointwise [placeOf]
  rw [inside_at z p k h, gather3_at L z p k j h]
  rfl

/-- The host's covariance for each particle. -/
def shapeOf (C : FVec Ideal S131072x4x2x2 .f32) (z : IVec S131072x1x1 32) : FVec Ideal S131072x2x2 .f32 :=
  shapeCast _ (select (broadcastInDim S131072x1x2x2 ![0, 1] bcast_S131072x1_S131072x1x2x2_0_1 (inside z))
    (Host.gather gather_S131072x4x2x2_S131072x1x1_S131072x1x2x2_23_1_0_0_1_2_1122 C z)
    (broadcastInDim S131072x1x2x2 ![] bcast_S_S131072x1x2x2 (constant S_ .f32 0x7FC00000#32))) shapeCasts_S131072x1x2x2_S131072x2x2

/-- The host's covariance for one particle. -/
theorem shapeOf_at (C : FVec Ideal S131072x4x2x2 .f32) (z : IVec S131072x1x1 32) (p : Fin 131072) (k : Fin 4) (i j : Fin 2)
    (h : z (ix3 p 0 0) = BitVec.ofNat 32 k.val) : shapeOf C z (ix3 p i j) = C (ix4 p k i j) := by
  pointwise [shapeOf]
  rw [inside_at z p k h, gather4_at C z p k i j h]
  rfl

/-- The host's logarithm of an array at an index. -/
theorem log_at {S : Shape} (x : FVec Ideal S .f32) (i : S.Idx) : Host.log x i = Ideal.log (x i) := rfl

variable (V0 : Valuation τ sig (Elt Ideal))

/-- The reference's index array of the first draw. -/
theorem first_index : res_main_v103 V0 = index1 (least (marked (res_main_v95 V0) (peak (res_main_v95 V0)))) := rfl

/-- The reference's direction of the first draw, as an index. -/
theorem first_at (p : Fin 131072) : res_main_v103 V0 (ix3 p 0 0) = direction1 (scoresOf V0) p.val := by
  rw [first_index, index1_at, pick_at]
  unfold direction1
  congr 1
  funext j
  exact first_scores V0 p j

/-- The reference's scores of the second draw. -/
theorem second_scores (p : Fin 131072) (j : Fin 4) : res_main_v150 V0 (ix2 p j) =
    Ideal.log (choose (direction1 (scoresOf V0) p.val) fun k => V0 (Proc.devRef .tc main_arg2) (ix3 p k j)) - logExponential (word2 p.val j.val) := by
  have e : res_main_v150 V0 = scored (floats (res_main_call16_v21 V0) (res_main_call16_v20 V0)
      (broadcastInDim S131072x4 ![] bcast_S_S131072x4 (res_main_v121 V0))
      (broadcastInDim S131072x4 ![] bcast_S_S131072x4 (addi (res_main_v113 V0) (constantI S_ 32 5#32))))
      (Host.log (rowOf (V0 (Proc.devRef .tc main_arg2)) (wrapped (res_main_v103 V0)))) := rfl
  rw [e, scored_at _ _ _ _ _ (floats_at _ (second_last V0 _) (same _ (second3 V0)) (more _ (second1 V0))), counter4_at]
  obtain ⟨k, hk⟩ := pick_lt fun j => scoresOf V0 j - logExponential (word1 p.val j.val)
  have hk' : direction1 (scoresOf V0) p.val = BitVec.ofNat 32 k.val := hk
  rw [log_at, rowOf_at _ _ p k j (wrapped_at _ p k ((first_at V0 p).trans hk')), hk', choose_of]
  rfl

/-- The reference's second direction of each particle. -/
def directionOf (p : Fin 131072) : BitVec 32 :=
  direction2 (scoresOf V0) (fun k j => V0 (Proc.devRef .tc main_arg2) (ix3 p k j)) p.val

/-- The reference's array of the second draw. -/
theorem second_array : res_main_v157 V0 = least (marked (res_main_v150 V0) (peak (res_main_v150 V0))) := rfl

/-- The reference's direction of the second draw. -/
theorem second_at (p : Fin 131072) : res_main_v157 V0 (ix1 p) = directionOf V0 p := by
  rw [second_array, pick_at]
  unfold directionOf direction2
  congr 1
  funext j
  exact second_scores V0 p j

/-- The reference's result of directions. -/
theorem directions_at (p : Fin 131072) (h : S131072.ShapeCasts S1x131072) :
    shapeCast S1x131072 (res_main_v157 V0) h (ix2 0 p) = directionOf V0 p := by
  rw [← second_at]
  generalize res_main_v157 V0 = z
  pointwise

end Cert.ReferenceIdeal.Draw
-- ==== Proof.ReferenceNormal.lean ====
module

public import proofs.«01_k».proof.Proof.ReferenceScores

@[expose] public section

set_option maxRecDepth 16384

noncomputable section

namespace Cert.ReferenceIdeal.Draw

open Idealize.ShloMosaic Idealize.ShloMosaic.TcCoe Cert.ReferenceIdeal Cert.ReferenceIdeal.Gen Cert.ReferenceIdeal.Value Cert.Draw

/-- A number over the whole array of normal variables. -/
def all (b : BitVec 32) : FVec Ideal S131072x2 .f32 := broadcastInDim S131072x2 ![] bcast_S_S131072x2 (constant S_ .f32 b)

/-- A number over the whole array, at an index. -/
theorem all_at (b : BitVec 32) (i : S131072x2.Idx) : all b i = Ideal.ofBits .f32 b := rfl

/-- The host's uniform numbers between minus one and one. -/
def uniforms (w : IVec S131072x2 32) : FVec Ideal S131072x2 .f32 :=
  maximumf (all 0xBF7FFFFF#32) (addf (mulf (subf (bitcastToFloat .f32 w) (all 0x3F800000#32)) (all 0x40000000#32)) (all 0xBF7FFFFF#32))

/-- One of the host's uniform numbers. -/
theorem uniforms_at (w : IVec S131072x2 32) (i : S131072x2.Idx) (x : BitVec 32) (h : w i = mantissa x) :
    uniforms w i = spread (Ideal.ofBits .f32 0xBF7FFFFF#32) (Ideal.ofBits .f32 0x40000000#32) x := by
  unfold spread unit
  rw [← h]
  rfl

/-- The host's argument of the polynomials. -/
def tails (u : FVec Ideal S131072x2 .f32) : FVec Ideal S131072x2 .f32 := Host.negf (Host.log1p (mulf (Host.negf u) u))

/-- One of the host's arguments. -/
theorem tails_at (u : FVec Ideal S131072x2 .f32) (i : S131072x2.Idx) : tails u i = tailOf (u i) := by
  unfold tailOf
  rw [Ideal.ofBits_zero_f32, zero_sub, zero_sub, mul_comm]
  rfl

/-- One step of the host's polynomial. -/
def step (v q : FVec Ideal S131072x2 .f32) (b : BitVec 32) : FVec Ideal S131072x2 .f32 := addf (mulf q v) (all b)

/-- One step of the host's polynomial, at an index. -/
theorem step_at (v q : FVec Ideal S131072x2 .f32) (b : BitVec 32) (i : S131072x2.Idx) : step v q b i = q i * v i + Ideal.ofBits .f32 b := rfl

/-- The host's polynomial of the centre. -/
def centre (v : FVec Ideal S131072x2 .f32) : FVec Ideal S131072x2 .f32 :=
  step v (step v (step v (step v (step v (step v (step v (step v (all 0x32F16588#32) 0x34B84B36#32) 0xB66C7357#32) 0xB6935AC1#32) 0x396532DB#32)
    0xBAA45408#32) 0xBB88E4EF#32) 0x3E7C8F63#32) 0x3FC02E2F#32

/-- The host's polynomial of the tail. -/
def tail (v : FVec Ideal S131072x2 .f32) : FVec Ideal S131072x2 .f32 :=
  step v (step v (step v (step v (step v (step v (step v (step v (all 0xB951F09B#32) 0x38D3B56B#32) 0x3AB0DC72#32) 0xBB70BDE7#32) 0x3BBC127B#32)
    0xBBF9C5D7#32) 0x3C1AA57E#32) 0x3F8036DB#32) 0x40354F7E#32

/-- The polynomial where the argument is near zero. -/
theorem centre_at (v : FVec Ideal S131072x2 .f32) (i : S131072x2.Idx) : centre v i = horner 1#1 (v i) := by
  unfold centre horner hornerStep
  simp only [step_at, all_at, add_comm, ValueIdx.select_one]

/-- The polynomial where the argument is far from zero. -/
theorem tail_at (v : FVec Ideal S131072x2 .f32) (i : S131072x2.Idx) : tail v i = horner 0#1 (v i) := by
  unfold tail horner hornerStep
  simp only [step_at, all_at, add_comm, ValueIdx.select_zero]

/-- The host's inverse error function. -/
def inverses (u t : FVec Ideal S131072x2 .f32) : FVec Ideal S131072x2 .f32 :=
  select (cmpf .oeq (Host.absf u) (all 0x3F800000#32)) (mulf (all 0x7F800000#32) u)
    (mulf u (select (cmpf .olt t (all 0x40A00000#32)) (centre (subf t (all 0x40200000#32))) (tail (subf (Host.sqrt t) (all 0x40400000#32)))))

/-- The host's inverse error function at an index. -/
theorem inverses_at (u : FVec Ideal S131072x2 .f32) (i : S131072x2.Idx) : inverses u (tails u) i = erfInv (u i) := by
  have e : inverses u (tails u) i = Scalar.select (Ideal.cmp .oeq (max (u i) (-(u i))) (Ideal.ofBits .f32 0x3F800000#32)) (Ideal.ofBits .f32 0x7F800000#32 * u i)
    (u i * Scalar.select (Ideal.cmp .olt (tails u i) (Ideal.ofBits .f32 0x40A00000#32)) (centre (subf (tails u) (all 0x40200000#32)) i)
      (tail (subf (Host.sqrt (tails u)) (all 0x40400000#32)) i)) := rfl
  rw [e, centre_at, tail_at]
  have e1 : (subf (tails u) (all 0x40200000#32) i : EReal) = tailOf (u i) - Ideal.ofBits .f32 0x40200000#32 := by
    rw [← tails_at]
    rfl
  have e2 : (subf (Host.sqrt (tails u)) (all 0x40400000#32) i : EReal) = Ideal.sqrt (tailOf (u i)) - Ideal.ofBits .f32 0x40400000#32 := by
    rw [← tails_at]
    rfl
  rw [e1, e2, tails_at, mul_comm (u i)]
  unfold erfInv
  by_cases h : near (u i) = 1#1
  · have h' : Ideal.cmp .olt (tailOf (u i)) (Ideal.ofBits .f32 0x40A00000#32) = 1#1 := h
    rw [h, h', ValueIdx.select_one, ValueIdx.select_one]
  · have h0 := ValueIdx.eq_zero_of_ne_one h
    have h' : Ideal.cmp .olt (tailOf (u i)) (Ideal.ofBits .f32 0x40A00000#32) = 0#1 := h0
    rw [h0, h', ValueIdx.select_zero, ValueIdx.select_zero]

variable (V0 : Valuation τ sig (Elt Ideal))

/-- The reference's normal variables, as an array. -/
def normalsOf : FVec Ideal S131072x2 .f32 := mulf (all 0x3FB504F3#32) (inverses (res_main_v217 V0) (res_main_v221 V0))

/-- The reference's uniform numbers, as an array. -/
theorem uniform_array : res_main_v217 V0 = uniforms (floats (res_main_call26_v21 V0) (res_main_call26_v20 V0)
    (broadcastInDim S131072x2 ![] bcast_S_S131072x2 (res_main_v194 V0))
    (broadcastInDim S131072x2 ![] bcast_S_S131072x2 (addi (res_main_v186 V0) (constantI S_ 32 5#32)))) := rfl

/-- The reference's uniform numbers. -/
theorem uniform_at (p : Fin 131072) (i : Fin 2) :
    res_main_v217 V0 (ix2 p i) = spread (Ideal.ofBits .f32 0xBF7FFFFF#32) (Ideal.ofBits .f32 0x40000000#32) (word3 p.val i.val) := by
  rw [uniform_array, uniforms_at _ _ _ (floats_at _ (normal_last V0 _) (same _ (normal3 V0)) (more _ (normal1 V0))), counter2_at]
  unfold word3
  with_reducible rfl

/-- The reference's arguments of the polynomials, as an array. -/
theorem tail_array : res_main_v221 V0 = tails (res_main_v217 V0) := rfl

/-- The product of a number and an array at an index. -/
theorem scaled_at (b : BitVec 32) (u : FVec Ideal S131072x2 .f32) (i : S131072x2.Idx) : mulf (all b) u i = Ideal.ofBits .f32 b * u i := rfl

/-- The reference's normal variables. -/
theorem normalsOf_at (p : Fin 131072) (i : Fin 2) : normalsOf V0 (ix2 p i) = normal (word3 p.val i.val) := by
  unfold normalsOf normal
  rw [scaled_at, tail_array, inverses_at, uniform_at]

end Cert.ReferenceIdeal.Draw
-- ==== Proof.ReferenceMove.lean ====
module

public import proofs.«01_k».proof.Proof.ReferenceDraws
public import proofs.«01_k».proof.Proof.ReferenceNormal

@[expose] public section

set_option maxRecDepth 16384

noncomputable section

namespace Cert.ReferenceIdeal.Draw

open Idealize.ShloMosaic Idealize.ShloMosaic.TcCoe Cert.ReferenceIdeal Cert.ReferenceIdeal.Gen Cert.ReferenceIdeal.Value Cert.Draw

/-- The host's places of a matrix's diagonal. -/
def diagonal (x y : IVec S2 32) : IVec S2x2 32 :=
  concatenate S2x2 1 [⟨S2x1, (broadcastInDim S2x1 ![0] bcast_S2_S2x1_0 (select (cmpi .slt x (broadcastInDim S2 ![] bcast_S_S2 (constantI S_ 32 0#32)))
      (addi x (broadcastInDim S2 ![] bcast_S_S2 (constantI S_ 32 2#32))) x))⟩,
    ⟨S2x1, (broadcastInDim S2x1 ![0] bcast_S2_S2x1_0 (select (cmpi .slt y (broadcastInDim S2 ![] bcast_S_S2 (constantI S_ 32 0#32)))
      (addi y (broadcastInDim S2 ![] bcast_S_S2 (constantI S_ 32 2#32))) y))⟩] concatenates_S2x1_S2x1_S2x2_d1

/-- The host's places of a matrix's diagonal, the row and the column. -/
theorem diagonal_at (j : Fin 2) : diagonal (iotaInDim S2 32 0) (iotaInDim S2 32 0) (ix2 j 0) = BitVec.ofNat 32 j.val ∧
    diagonal (iotaInDim S2 32 0) (iotaInDim S2 32 0) (ix2 j 1) = BitVec.ofNat 32 j.val := by
  constructor
  · pointwise [diagonal]
    fin_cases j <;> rfl
  · pointwise [diagonal]
    fin_cases j <;> rfl

/-- The clamped place on the diagonal is its number. -/
theorem clamped2 (k : Fin 2) : min (BitVec.ofNat 32 k.val).toInt.toNat 1 + 0 + 0 = k.val := by
  fin_cases k <;> rfl

/-- The host's diagonal of each particle's matrix. -/
theorem diagonals_at (C : FVec Ideal S131072x2x2 .f32) (d : IVec S2x2 32) (p : Fin 131072) (j : Fin 2)
    (h0 : d (ix2 j 0) = BitVec.ofNat 32 j.val) (h1 : d (ix2 j 1) = BitVec.ofNat 32 j.val) :
    Host.gather gather_S131072x2x2_S2x2_S131072x2_0_12_n_n_12_1_13107211 C d (ix2 p j) = C (ix3 p j j) := by
  have e (n : Fin 2) : gather_S131072x2x2_S2x2_S131072x2_0_12_n_n_12_1_13107211.siIdx (ix2 p j) n = ix2 j n := by
    funext b
    match b with
    | ⟨0, _⟩ => rfl
    | ⟨1, _⟩ => rfl
  unfold Host.gather
  congr 1
  funext a
  apply Fin.ext
  match a with
  | ⟨0, _⟩ =>
    show 0 + 0 + p.val = p.val
    omega
  | ⟨1, _⟩ =>
    refine Eq.trans (b := min (d (gather_S131072x2x2_S2x2_S131072x2_0_12_n_n_12_1_13107211.siIdx (ix2 p j) (0 : Fin 2))).toInt.toNat 1 + 0 + 0) rfl ?_
    rw [e, h0]
    exact clamped2 j
  | ⟨2, _⟩ =>
    refine Eq.trans (b := min (d (gather_S131072x2x2_S2x2_S131072x2_0_12_n_n_12_1_13107211.siIdx (ix2 p j) (1 : Fin 2))).toInt.toNat 1 + 0 + 0) rfl ?_
    rw [e, h1]
    exact clamped2 j

/-- The host's factor of each particle: below the diagonal as given, on it the exponential. -/
def factor (C : FVec Ideal S131072x2x2 .f32) (D : FVec Ideal S131072x2 .f32) : FVec Ideal S131072x2x2 .f32 :=
  addf (select (broadcastInDim S131072x2x2 ![1, 2] bcast_S2x2_S131072x2x2_1_2
      (cmpi .sge (addi (iotaInDim S2x2 32 0) (broadcastInDim S2x2 ![] bcast_S_S2x2 (constantI S_ 32 4294967295#32))) (iotaInDim S2x2 32 1)))
      C (broadcastInDim S131072x2x2 ![] bcast_S_S131072x2x2 (constant S_ .f32 0x00000000#32)))
    (mulf (broadcastInDim S131072x2x2 ![0, 1, 2] bcast_S131072x2x1_S131072x2x2_0_1_2 (broadcastInDim S131072x2x1 ![0, 1] bcast_S131072x2_S131072x2x1_0_1
        (Host.exp D)))
      (broadcastInDim S131072x2x2 ![0, 1, 2] bcast_S1x2x2_S131072x2x2_0_1_2 (broadcastInDim S1x2x2 ![1, 2] bcast_S2x2_S1x2x2_1_2
        (uitofp .f32 (cmpi .eq (addi (iotaInDim S2x2 32 0) (broadcastInDim S2x2 ![] bcast_S_S2x2 (constantI S_ 32 0#32))) (iotaInDim S2x2 32 1))))))

/-- A word for each matrix entry, the same for all particles. -/
theorem entries_at {κ : Type} (B : S2x2.Idx → κ) (p : Fin 131072) (i j : Fin 2) :
    broadcastInDim S131072x2x2 ![1, 2] bcast_S2x2_S131072x2x2_1_2 B (ix3 p i j) = B (ix2 i j) := by
  pointwise

/-- A number for each matrix entry, the same for all particles. -/
theorem numbers_at (B : FVec Ideal S2x2 .f32) (p : Fin 131072) (i j : Fin 2) :
    broadcastInDim S131072x2x2 ![0, 1, 2] bcast_S1x2x2_S131072x2x2_0_1_2 (broadcastInDim S1x2x2 ![1, 2] bcast_S2x2_S1x2x2_1_2 B) (ix3 p i j) = B (ix2 i j) := by
  pointwise

/-- A number for each row of a particle's matrix. -/
theorem rows_at (D : FVec Ideal S131072x2 .f32) (p : Fin 131072) (i j : Fin 2) :
    broadcastInDim S131072x2x2 ![0, 1, 2] bcast_S131072x2x1_S131072x2x2_0_1_2 (broadcastInDim S131072x2x1 ![0, 1] bcast_S131072x2_S131072x2x1_0_1 D)
      (ix3 p i j) = D (ix2 p i) := by
  pointwise

/-- The host's factor, read at an index. -/
theorem factor_read (C : FVec Ideal S131072x2x2 .f32) (D : FVec Ideal S131072x2 .f32) (p : Fin 131072) (i j : Fin 2) : factor C D (ix3 p i j) =
    Scalar.select (IntOp.cmpi .sge (IntOp.addi (BitVec.ofNat 32 i.val) 4294967295#32) (BitVec.ofNat 32 j.val)) (C (ix3 p i j)) (Ideal.ofBits .f32 0#32) +
      Ideal.exp (D (ix2 p i)) * FloatOps.uitofp (F := Ideal) .f32 (IntOp.cmpi .eq (IntOp.addi (BitVec.ofNat 32 i.val) 0#32) (BitVec.ofNat 32 j.val)) := by
  have e (b : IVec S2x2 1) (z : FVec Ideal S131072x2x2 .f32) (r I : FVec Ideal S131072x2x2 .f32) :
      addf (select (broadcastInDim S131072x2x2 ![1, 2] bcast_S2x2_S131072x2x2_1_2 b) C z) (mulf r I) (ix3 p i j) =
      Scalar.select (broadcastInDim S131072x2x2 ![1, 2] bcast_S2x2_S131072x2x2_1_2 b (ix3 p i j)) (C (ix3 p i j)) (z (ix3 p i j)) + r (ix3 p i j) * I (ix3 p i j) := rfl
  unfold factor
  rw [e, entries_at, rows_at, numbers_at]
  rfl

/-- A true word is the number one. -/
theorem true_word : (FloatOps.uitofp (F := Ideal) .f32 (1#1) : EReal) = 1 := by
  simp [FloatOps.uitofp]

/-- A false word is the number zero. -/
theorem false_word : (FloatOps.uitofp (F := Ideal) .f32 (0#1) : EReal) = 0 := by
  simp [FloatOps.uitofp]

/-- The host's product of the factor and the normal variables. -/
def product (S : FVec Ideal S131072x2x2 .f32) (n : FVec Ideal S131072x2 .f32) : FVec Ideal S131072x2 .f32 :=
  Host.dotGeneral dot_S131072x2x2_S131072x2_S131072x2_2_1_1_n_0_0 none S n

/-- The host's product, a particle and a coordinate. -/
theorem product_at (S : FVec Ideal S131072x2x2 .f32) (n : FVec Ideal S131072x2 .f32) (p : Fin 131072) (i : Fin 2) :
    product S n (ix2 p i) = S (ix3 p i 0) * n (ix2 p 0) + S (ix3 p i 1) * n (ix2 p 1) := by
  pointwise [product]
  rw [Fin.sum_univ_two]

/-- The host's move of a particle along the first coordinate. -/
theorem first_move (C : FVec Ideal S131072x2x2 .f32) (D n : FVec Ideal S131072x2 .f32) (p : Fin 131072) :
    product (factor C D) n (ix2 p 0) = Ideal.exp (D (ix2 p 0)) * n (ix2 p 0) := by
  have e0 : IntOp.cmpi .sge (IntOp.addi (BitVec.ofNat 32 (0 : Fin 2).val) 4294967295#32) (BitVec.ofNat 32 (0 : Fin 2).val) = 0#1 := rfl
  have e1 : IntOp.cmpi .sge (IntOp.addi (BitVec.ofNat 32 (0 : Fin 2).val) 4294967295#32) (BitVec.ofNat 32 (1 : Fin 2).val) = 0#1 := rfl
  have f0 : IntOp.cmpi .eq (IntOp.addi (BitVec.ofNat 32 (0 : Fin 2).val) 0#32) (BitVec.ofNat 32 (0 : Fin 2).val) = 1#1 := rfl
  have f1 : IntOp.cmpi .eq (IntOp.addi (BitVec.ofNat 32 (0 : Fin 2).val) 0#32) (BitVec.ofNat 32 (1 : Fin 2).val) = 0#1 := rfl
  rw [product_at, factor_read, factor_read, e0, e1, f0, f1, true_word, false_word, ValueIdx.select_zero, ValueIdx.select_zero, Ideal.ofBits_zero_f32,
    mul_one, mul_zero, zero_add, zero_add, zero_mul, add_zero]

/-- The host's move of a particle along the second coordinate. -/
theorem second_move (C : FVec Ideal S131072x2x2 .f32) (D n : FVec Ideal S131072x2 .f32) (p : Fin 131072) :
    product (factor C D) n (ix2 p 1) = C (ix3 p 1 0) * n (ix2 p 0) + Ideal.exp (D (ix2 p 1)) * n (ix2 p 1) := by
  have e0 : IntOp.cmpi .sge (IntOp.addi (BitVec.ofNat 32 (1 : Fin 2).val) 4294967295#32) (BitVec.ofNat 32 (0 : Fin 2).val) = 1#1 := rfl
  have e1 : IntOp.cmpi .sge (IntOp.addi (BitVec.ofNat 32 (1 : Fin 2).val) 4294967295#32) (BitVec.ofNat 32 (1 : Fin 2).val) = 0#1 := rfl
  have f0 : IntOp.cmpi .eq (IntOp.addi (BitVec.ofNat 32 (1 : Fin 2).val) 0#32) (BitVec.ofNat 32 (0 : Fin 2).val) = 0#1 := rfl
  have f1 : IntOp.cmpi .eq (IntOp.addi (BitVec.ofNat 32 (1 : Fin 2).val) 0#32) (BitVec.ofNat 32 (1 : Fin 2).val) = 1#1 := rfl
  rw [product_at, factor_read, factor_read, e0, e1, f0, f1, true_word, false_word, ValueIdx.select_one, ValueIdx.select_zero, Ideal.ofBits_zero_f32,
    mul_one, mul_zero, zero_add, add_zero]

/-- The host's index array of a direction, made with one place more and one dropped. -/
theorem index2_at (z : IVec S131072 32) (p : Fin 131072) (k : Fin 4) (h : z (ix1 p) = BitVec.ofNat 32 k.val) (w : IVec S131072x1x1x1 32)
    (hw : w = broadcastInDim S131072x1x1x1 ![0] bcast_S131072_S131072x1x1x1_0 z) :
    (shapeCast S131072x1x1 (select (cmpi .slt w (broadcastInDim S131072x1x1x1 ![] bcast_S_S131072x1x1x1 (constantI S_ 32 0#32)))
      (addi w (broadcastInDim S131072x1x1x1 ![] bcast_S_S131072x1x1x1 (constantI S_ 32 4#32))) w) shapeCasts_S131072x1x1x1_S131072x1x1 : IVec S131072x1x1 32) (ix3 p 0 0)
      = BitVec.ofNat 32 k.val := by
  have e : w (ix4 p 0 0 0) = BitVec.ofNat 32 k.val := by
    rw [hw, ← h]
    pointwise
  pointwise
  rw [e]
  fin_cases k <;> rfl

variable (V0 : Valuation τ sig (Elt Ideal))

/-- The directions as an index array of three places. -/
theorem rows_array : res_main_call18_v4 V0 = wrapped (index1 (res_main_v157 V0)) := rfl

/-- The directions as an index array of four places. -/
theorem places_array : res_main_v161 V0 = broadcastInDim S131072x1x1x1 ![0] bcast_S131072_S131072x1x1x1_0 (res_main_v157 V0) := rfl

/-- Each particle's chosen matrix, as an array. -/
theorem matrix_array : res_main_v163 V0 = shapeOf (V0 (Proc.devRef .tc main_arg4)) (res_main_call19_v5 V0) := rfl

/-- Each particle's move, as an array. -/
theorem move_array : res_main_v324 V0 = product (factor (res_main_v163 V0)
    (Host.gather gather_S131072x2x2_S2x2_S131072x2_0_12_n_n_12_1_13107211 (res_main_v163 V0) (diagonal (res_main_call20_v0 V0) (res_main_call20_v1 V0))))
    (normalsOf V0) := rfl

/-- Each particle's chosen place. -/
theorem place_at (p : Fin 131072) (k : Fin 4) (j : Fin 2) (h : directionOf V0 p = BitVec.ofNat 32 k.val) :
    placeOf (V0 (Proc.devRef .tc main_arg3)) (res_main_call18_v4 V0) (ix2 p j) = V0 (Proc.devRef .tc main_arg3) (ix3 p k j) := by
  rw [rows_array]
  exact placeOf_at _ _ p k j (wrapped_at _ p k ((index1_at _ p).trans ((second_at V0 p).trans h)))

/-- Each particle's chosen matrix. -/
theorem matrix_at (p : Fin 131072) (k : Fin 4) (i j : Fin 2) (h : directionOf V0 p = BitVec.ofNat 32 k.val) :
    res_main_v163 V0 (ix3 p i j) = V0 (Proc.devRef .tc main_arg4) (ix4 p k i j) := by
  rw [matrix_array]
  exact shapeOf_at _ _ p k i j (index2_at _ p k ((second_at V0 p).trans h) _ (places_array V0))

/-- The diagonal of each particle's chosen matrix. -/
theorem corner_at (p : Fin 131072) (j : Fin 2) :
    Host.gather gather_S131072x2x2_S2x2_S131072x2_0_12_n_n_12_1_13107211 (res_main_v163 V0) (diagonal (res_main_call20_v0 V0) (res_main_call20_v1 V0)) (ix2 p j)
      = res_main_v163 V0 (ix3 p j j) :=
  diagonals_at _ _ p j (diagonal_at j).1 (diagonal_at j).2

/-- The reference's new positions, as an array. -/
def positionsOf : FVec Ideal S131072x2 .f32 :=
  addf (V0 (Proc.devRef .tc main_arg0)) (addf (placeOf (V0 (Proc.devRef .tc main_arg3)) (res_main_call18_v4 V0)) (res_main_v324 V0))

/-- The reference's new positions. -/
theorem positions_at (p : Fin 131072) (i : Fin 2) : positionsOf V0 (ix2 p i) =
    moved (directionOf V0 p) (fun k n => V0 (Proc.devRef .tc main_arg3) (ix3 p k n)) (fun k a b => V0 (Proc.devRef .tc main_arg4) (ix4 p k a b))
      (fun n => V0 (Proc.devRef .tc main_arg0) (ix2 p n)) p.val i := by
  obtain ⟨k, h⟩ := pick_lt fun j => Ideal.log (choose (direction1 (scoresOf V0) p.val) fun k => V0 (Proc.devRef .tc main_arg2) (ix3 p k j)) - logExponential (word2 p.val j)
  have hd : directionOf V0 p = BitVec.ofNat 32 k.val := h
  have e (x y z : FVec Ideal S131072x2 .f32) (n : S131072x2.Idx) : addf x (addf y z) n = x n + (y n + z n) := rfl
  unfold positionsOf moved
  rw [e, place_at V0 p k i hd, move_array, hd]
  simp only [choose_of]
  match i with
  | 0 =>
    rw [first_move, corner_at, matrix_at V0 p k 0 0 hd, normalsOf_at, if_pos rfl]
    rfl
  | 1 =>
    rw [second_move, corner_at, matrix_at V0 p k 1 0 hd, matrix_at V0 p k 1 1 hd, normalsOf_at, normalsOf_at, if_neg (by decide)]
    rfl

end Cert.ReferenceIdeal.Draw
-- ==== Proof.Equation.lean ====
module

public import proofs.«01_k».proof.Proof.KernelArrays
public import proofs.«01_k».proof.Proof.ReferenceMove
public import proofs.«01_k».proof.Defs

@[expose] public section

set_option maxRecDepth 16384

noncomputable section

namespace Cert.Equation

open Idealize.ShloMosaic Idealize.ShloMosaic.TcCoe Idealize.SL.Sem Idealize.ShloMosaic.StableHlo Cert.Draw Cert.KernelIdeal.Block Cert.ReferenceIdeal.Draw

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's direction in terms of its launched arguments. -/
theorem direction_launched (c : Dev Cert.ReferenceIdeal.nD) (p : Fin 131072) : directionOf (launchContents m' c) p =
    direction2 (Cert.KernelIdeal.Block.scores (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)))
      (fun k n => m' ((c.tc : Thread Cert.ReferenceIdeal.nD Cert.ReferenceIdeal.τ).loc Cert.ReferenceIdeal.main_arg2) (ix3 p k n)) p.val := by
  unfold directionOf scoresOf Cert.KernelIdeal.Block.scores
  rfl

/-- The arguments the two programs are launched with agree. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- Launched with the same arguments, the two programs draw the same direction for each particle. -/
theorem same_direction (c : Dev Cert.KernelIdeal.nD) (h : Agree m m' c) (p : Fin 131072) :
    directionOf (launchContents m' c) p = directionIn m c p := by
  obtain ⟨_, h2, _, _, h6, h7, h8, h9, h10⟩ := h
  rw [direction_launched, h2, h6, h7, h8, h9, h10]
  rfl

/-- Launched with the same arguments, the two programs move each particle to the same position. -/
theorem same_position (c : Dev Cert.KernelIdeal.nD) (h : Agree m m' c) (p : Fin 131072) (i : Fin 2) :
    positionsOf (launchContents m' c) (ix2 p i) = positionIn m c p i := by
  have e : positionsOf (launchContents m' c) (ix2 p i) = moved (directionOf (launchContents m' c) p)
      (fun k n => m' ((c.tc : Thread Cert.ReferenceIdeal.nD Cert.ReferenceIdeal.τ).loc Cert.ReferenceIdeal.main_arg3) (ix3 p k n))
      (fun k a b => m' ((c.tc : Thread Cert.ReferenceIdeal.nD Cert.ReferenceIdeal.τ).loc Cert.ReferenceIdeal.main_arg4) (ix4 p k a b))
      (fun n => m' ((c.tc : Thread Cert.ReferenceIdeal.nD Cert.ReferenceIdeal.τ).loc Cert.ReferenceIdeal.main_arg0) (ix2 p n)) p.val i :=
    positions_at _ p i
  rw [e, same_direction m m' c h]
  obtain ⟨h0, _, h3, h4, _⟩ := h
  rw [h0, h3, h4]
  rfl

/-- The reference's directions are the kernel's array of directions. -/
theorem directions_eq (c : Dev Cert.KernelIdeal.nD) (h : Agree m m' c) (w : Cert.ReferenceIdeal.S131072.ShapeCasts Cert.ReferenceIdeal.S1x131072) :
    shapeCast Cert.ReferenceIdeal.S1x131072 (Cert.ReferenceIdeal.Value.res_main_v157 (launchContents m' c)) w
      = fun j : Cert.ReferenceIdeal.S1x131072.Idx => directionIn m c (j 1) := by
  funext j
  idx_vars j
  obtain rfl : j0 = 0 := Subsingleton.elim _ _
  exact (directions_at _ j1 w).trans (same_direction m m' c h j1)

/-- The reference's positions are the kernel's array of positions. -/
theorem positions_eq (c : Dev Cert.KernelIdeal.nD) (h : Agree m m' c) :
    positionsOf (launchContents m' c) = fun j : Cert.ReferenceIdeal.S131072x2.Idx => positionIn m c (j 0) (j 1) := by
  funext j
  idx_vars j
  exact same_position m m' c h _ _

/-- The kernel's five results and the reference's are the same over the extended reals. -/
theorem algebraic : Cert.algebraic_KernelIdeal_ReferenceIdeal := by
  intro m ρ m' ρ' _ hagree
  have agree (c : Dev Cert.KernelIdeal.nD) : Agree m m' c :=
    let ⟨h0, _, h2, h3, h4, _, h6, h7, h8, h9, h10⟩ := hagree c
    ⟨h0, h2, h3, h4, h6, h7, h8, h9, h10⟩
  refine ⟨fun c => fun j : Cert.KernelIdeal.S131072x2.Idx => positionIn m c (j 0) (j 1), fun c => fun j : Cert.KernelIdeal.S1x131072.Idx => directionIn m c (j 1),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg4), ?_, ?_⟩
  · refine (θ_run Cert.KernelIdeal.defs _ _).mono (fun _ h c => ?_) (Cert.KernelIdeal.Value.run_blocks (F := Ideal) m ρ)
    obtain ⟨h0, h1, h⟩ := h c
    exact ⟨h0.trans (final9 m c), h1.trans (final10 m c), h.2.2.1, h.2.2.2.1, h.2.2.2.2.1, h⟩
  · refine (θ_run Cert.ReferenceIdeal.defs _ _).mono (fun _ h c => ?_) (Cert.ReferenceIdeal.Value.run (F := Ideal) m' ρ')
    obtain ⟨h0, h1, h2, h3, h4, h⟩ := h c
    obtain ⟨_, a2, a3, a4, _⟩ := agree c
    exact ⟨h0.trans (positions_eq m m' c (agree c)), h1.trans (directions_eq m m' c (agree c) _), h2.trans a2, h3.trans a3, h4.trans a4, h⟩

end Cert.Equation
-- ==== Proof.lean ====
module

public import proofs.«01_k».proof.Defs
public import proofs.«01_k».proof.Proof.Gen.KernelIdeal.Value
public import proofs.«01_k».proof.Proof.Frames
public import proofs.«01_k».proof.Proof.Equation

@[expose] public section

/-- Everything that is claimed. -/
theorem Cert.Proof.claim : Cert.Claim :=
  ⟨Cert.Kernel.Gen.facts, Cert.KernelIdeal.Gen.facts, Cert.ReferenceIdeal.Gen.facts,
    Cert.Frames.kernel, Cert.Frames.kernelIdeal, Cert.Frames.referenceIdeal, Cert.Frames.preserves, Cert.Equation.algebraic⟩
